-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_ScaleDyIdeal (m : (ℓ : Loc Cert.ScaleDyIdeal.nD Cert.ScaleDyIdeal.τ Cert.ScaleDyIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_ScaleXIdeal (m : (ℓ : Loc Cert.ScaleXIdeal.nD Cert.ScaleXIdeal.τ Cert.ScaleXIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1)
      ∧ r.2.mem ((c.tc : Thread Cert.QuantDy.nD Cert.QuantDy.τ).loc Cert.QuantDy.main_arg2) = m ((c.tc : Thread Cert.QuantDy.nD Cert.QuantDy.τ).loc Cert.QuantDy.main_arg2)
      ∧ r.2.mem ((c.tc : Thread Cert.QuantDy.nD Cert.QuantDy.τ).loc Cert.QuantDy.main_arg3) = m ((c.tc : Thread Cert.QuantDy.nD Cert.QuantDy.τ).loc Cert.QuantDy.main_arg3))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_ScaleDyIdeal [hScaleDyIdeal : Cert.ScaleDyIdeal.Facts] : Prop :=
  ∀ (m : (ℓ : Loc Cert.ScaleDyIdeal.nD Cert.ScaleDyIdeal.τ Cert.ScaleDyIdeal.sig) → Buf (Elt Ideal) ℓ) (g : Dev Cert.ScaleDyIdeal.nD → PrngReg), Pre_ScaleDyIdeal m →
    θ_run (Cert.ScaleDyIdeal.defs (F := Ideal)) (onTc (τ := Cert.ScaleDyIdeal.τ) (Cert.ScaleDyIdeal.main (F := Ideal))) ⟨m, fun _ => 0, g⟩ (fun r => (∀ c : Dev Cert.ScaleDyIdeal.nD,
      r.2.mem ((c.tc : Thread Cert.ScaleDyIdeal.nD Cert.ScaleDyIdeal.τ).loc Cert.ScaleDyIdeal.main_arg0) = m ((c.tc : Thread Cert.ScaleDyIdeal.nD Cert.ScaleDyIdeal.τ).loc Cert.ScaleDyIdeal.main_arg0)
      ∧ r.2.mem ((c.tc : Thread Cert.ScaleDyIdeal.nD Cert.ScaleDyIdeal.τ).loc Cert.ScaleDyIdeal.main_arg1) = m ((c.tc : Thread Cert.ScaleDyIdeal.nD Cert.ScaleDyIdeal.τ).loc Cert.ScaleDyIdeal.main_arg1)
      ∧ r.2.mem ((c.tc : Thread Cert.ScaleDyIdeal.nD Cert.ScaleDyIdeal.τ).loc Cert.ScaleDyIdeal.main_arg2) = m ((c.tc : Thread Cert.ScaleDyIdeal.nD Cert.ScaleDyIdeal.τ).loc Cert.ScaleDyIdeal.main_arg2)
      ∧ r.2.mem ((c.tc : Thread Cert.ScaleDyIdeal.nD Cert.ScaleDyIdeal.τ).loc Cert.ScaleDyIdeal.main_arg3) = m ((c.tc : Thread Cert.ScaleDyIdeal.nD Cert.ScaleDyIdeal.τ).loc Cert.ScaleDyIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ r.2.sem = fun _ => 0)

def quiescent_ScaleXIdeal [hScaleXIdeal : Cert.ScaleXIdeal.Facts] : Prop :=
  ∀ (m : (ℓ : Loc Cert.ScaleXIdeal.nD Cert.ScaleXIdeal.τ Cert.ScaleXIdeal.sig) → Buf (Elt Ideal) ℓ) (g : Dev Cert.ScaleXIdeal.nD → PrngReg), Pre_ScaleXIdeal m →
    θ_run (Cert.ScaleXIdeal.defs (F := Ideal)) (onTc (τ := Cert.ScaleXIdeal.τ) (Cert.ScaleXIdeal.main (F := Ideal))) ⟨m, fun _ => 0, g⟩ (fun r => (∀ c : Dev Cert.ScaleXIdeal.nD,
      r.2.mem ((c.tc : Thread Cert.ScaleXIdeal.nD Cert.ScaleXIdeal.τ).loc Cert.ScaleXIdeal.main_arg0) = m ((c.tc : Thread Cert.ScaleXIdeal.nD Cert.ScaleXIdeal.τ).loc Cert.ScaleXIdeal.main_arg0)
      ∧ r.2.mem ((c.tc : Thread Cert.ScaleXIdeal.nD Cert.ScaleXIdeal.τ).loc Cert.ScaleXIdeal.main_arg1) = m ((c.tc : Thread Cert.ScaleXIdeal.nD Cert.ScaleXIdeal.τ).loc Cert.ScaleXIdeal.main_arg1)
      ∧ r.2.mem ((c.tc : Thread Cert.ScaleXIdeal.nD Cert.ScaleXIdeal.τ).loc Cert.ScaleXIdeal.main_arg2) = m ((c.tc : Thread Cert.ScaleXIdeal.nD Cert.ScaleXIdeal.τ).loc Cert.ScaleXIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_QuantDy_QuantDyIdeal : Prop :=
  IdealRules.bf16_pair.Statement Cert.QuantDyIdeal.S1x8x2x128 Cert.QuantDyIdeal.S1x8x1x128
  ∧ IdealRules.bf16_pair.Statement Cert.QuantDyIdeal.S16x128 Cert.QuantDyIdeal.S8x128
  ∧ IdealRules.bf16_pair.PackStatement Cert.QuantDyIdeal.S8x128
  ∧ IdealRules.sign_bit.MaskStatement Cert.QuantDyIdeal.S8x128 .f32

def algebraic_QuantDyIdeal_ScaleDyIdeal [hQuantDyIdeal : Cert.QuantDyIdeal.Facts] [hScaleDyIdeal : Cert.ScaleDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.ScaleDyIdeal.nD Cert.ScaleDyIdeal.τ Cert.ScaleDyIdeal.sig) → Buf (Elt Ideal) ℓ) (g' : Dev Cert.ScaleDyIdeal.nD → PrngReg), Pre_QuantDyIdeal m →
    (∀ c : Dev Cert.QuantDyIdeal.nD,
      m' ((c.tc : Thread Cert.ScaleDyIdeal.nD Cert.ScaleDyIdeal.τ).loc Cert.ScaleDyIdeal.main_arg0) = m ((c.tc : Thread Cert.QuantDyIdeal.nD Cert.QuantDyIdeal.τ).loc Cert.QuantDyIdeal.main_arg0)
      ∧ m' ((c.tc : Thread Cert.ScaleDyIdeal.nD Cert.ScaleDyIdeal.τ).loc Cert.ScaleDyIdeal.main_arg1) = m ((c.tc : Thread Cert.QuantDyIdeal.nD Cert.QuantDyIdeal.τ).loc Cert.QuantDyIdeal.main_arg1)
      ∧ m' ((c.tc : Thread Cert.ScaleDyIdeal.nD Cert.ScaleDyIdeal.τ).loc Cert.ScaleDyIdeal.main_arg2) = m ((c.tc : Thread Cert.QuantDyIdeal.nD Cert.QuantDyIdeal.τ).loc Cert.QuantDyIdeal.main_arg2)
      ∧ m' ((c.tc : Thread Cert.ScaleDyIdeal.nD Cert.ScaleDyIdeal.τ).loc Cert.ScaleDyIdeal.main_arg3) = m ((c.tc : Thread Cert.QuantDyIdeal.nD Cert.QuantDyIdeal.τ).loc Cert.QuantDyIdeal.main_arg3)) →
    ∃ (v0 : (c : Dev Cert.QuantDyIdeal.nD) → Buf (Elt Ideal) ((c.tc : Thread Cert.QuantDyIdeal.nD Cert.QuantDyIdeal.τ).loc Cert.QuantDyIdeal.main_v1_1)) (v1 : (c : Dev Cert.QuantDyIdeal.nD) → Buf (Elt Ideal) ((c.tc : Thread Cert.QuantDyIdeal.nD Cert.QuantDyIdeal.τ).loc Cert.QuantDyIdeal.main_v1_4)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v1_1) = v0 c
          ∧ r.2.mem ((c.tc : Thread Cert.QuantDyIdeal.nD Cert.QuantDyIdeal.τ).loc Cert.QuantDyIdeal.main_v1_4) = v1 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
          ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
          ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ θ_run (Cert.ScaleDyIdeal.defs (F := Ideal)) (onTc (τ := Cert.ScaleDyIdeal.τ) (Cert.ScaleDyIdeal.main (F := Ideal))) ⟨m', fun _ => 0, g'⟩ (fun r => ∀ c : Dev Cert.ScaleDyIdeal.nD,
          r.2.mem ((c.tc : Thread Cert.ScaleDyIdeal.nD Cert.ScaleDyIdeal.τ).loc Cert.ScaleDyIdeal.main_v38) = v0 c
          ∧ r.2.mem ((c.tc : Thread Cert.ScaleDyIdeal.nD Cert.ScaleDyIdeal.τ).loc Cert.ScaleDyIdeal.main_v27) = v1 c
          ∧ r.2.mem ((c.tc : Thread Cert.ScaleDyIdeal.nD Cert.ScaleDyIdeal.τ).loc Cert.ScaleDyIdeal.main_arg0) = m' ((c.tc : Thread Cert.ScaleDyIdeal.nD Cert.ScaleDyIdeal.τ).loc Cert.ScaleDyIdeal.main_arg0)
          ∧ r.2.mem ((c.tc : Thread Cert.ScaleDyIdeal.nD Cert.ScaleDyIdeal.τ).loc Cert.ScaleDyIdeal.main_arg1) = m' ((c.tc : Thread Cert.ScaleDyIdeal.nD Cert.ScaleDyIdeal.τ).loc Cert.ScaleDyIdeal.main_arg1)
          ∧ r.2.mem ((c.tc : Thread Cert.ScaleDyIdeal.nD Cert.ScaleDyIdeal.τ).loc Cert.ScaleDyIdeal.main_arg2) = m' ((c.tc : Thread Cert.ScaleDyIdeal.nD Cert.ScaleDyIdeal.τ).loc Cert.ScaleDyIdeal.main_arg2)
          ∧ r.2.mem ((c.tc : Thread Cert.ScaleDyIdeal.nD Cert.ScaleDyIdeal.τ).loc Cert.ScaleDyIdeal.main_arg3) = m' ((c.tc : Thread Cert.ScaleDyIdeal.nD Cert.ScaleDyIdeal.τ).loc Cert.ScaleDyIdeal.main_arg3))

def preserves_QuantX_QuantXIdeal : Prop :=
  IdealRules.bf16_pair.Statement Cert.QuantXIdeal.S1x8x2x128 Cert.QuantXIdeal.S1x8x1x128
  ∧ IdealRules.bf16_pair.Statement Cert.QuantXIdeal.S16x128 Cert.QuantXIdeal.S8x128
  ∧ IdealRules.bf16_pair.PackStatement Cert.QuantXIdeal.S8x128

def algebraic_QuantXIdeal_ScaleXIdeal [hQuantXIdeal : Cert.QuantXIdeal.Facts] [hScaleXIdeal : Cert.ScaleXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.ScaleXIdeal.nD Cert.ScaleXIdeal.τ Cert.ScaleXIdeal.sig) → Buf (Elt Ideal) ℓ) (g' : Dev Cert.ScaleXIdeal.nD → PrngReg), Pre_QuantXIdeal m →
    (∀ c : Dev Cert.QuantXIdeal.nD,
      m' ((c.tc : Thread Cert.ScaleXIdeal.nD Cert.ScaleXIdeal.τ).loc Cert.ScaleXIdeal.main_arg0) = m ((c.tc : Thread Cert.QuantXIdeal.nD Cert.QuantXIdeal.τ).loc Cert.QuantXIdeal.main_arg0)
      ∧ m' ((c.tc : Thread Cert.ScaleXIdeal.nD Cert.ScaleXIdeal.τ).loc Cert.ScaleXIdeal.main_arg1) = m ((c.tc : Thread Cert.QuantXIdeal.nD Cert.QuantXIdeal.τ).loc Cert.QuantXIdeal.main_arg1)
      ∧ m' ((c.tc : Thread Cert.ScaleXIdeal.nD Cert.ScaleXIdeal.τ).loc Cert.ScaleXIdeal.main_arg2) = m ((c.tc : Thread Cert.QuantXIdeal.nD Cert.QuantXIdeal.τ).loc Cert.QuantXIdeal.main_arg2)) →
    ∃ (v0 : (c : Dev Cert.QuantXIdeal.nD) → Buf (Elt Ideal) ((c.tc : Thread Cert.QuantXIdeal.nD Cert.QuantXIdeal.τ).loc Cert.QuantXIdeal.main_v1_1)) (v1 : (c : Dev Cert.QuantXIdeal.nD) → Buf (Elt Ideal) ((c.tc : Thread Cert.QuantXIdeal.nD Cert.QuantXIdeal.τ).loc Cert.QuantXIdeal.main_v1_4)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v1_1) = v0 c
          ∧ r.2.mem ((c.tc : Thread Cert.QuantXIdeal.nD Cert.QuantXIdeal.τ).loc Cert.QuantXIdeal.main_v1_4) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
          ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ θ_run (Cert.ScaleXIdeal.defs (F := Ideal)) (onTc (τ := Cert.ScaleXIdeal.τ) (Cert.ScaleXIdeal.main (F := Ideal))) ⟨m', fun _ => 0, g'⟩ (fun r => ∀ c : Dev Cert.ScaleXIdeal.nD,
          r.2.mem ((c.tc : Thread Cert.ScaleXIdeal.nD Cert.ScaleXIdeal.τ).loc Cert.ScaleXIdeal.main_v38) = v0 c
          ∧ r.2.mem ((c.tc : Thread Cert.ScaleXIdeal.nD Cert.ScaleXIdeal.τ).loc Cert.ScaleXIdeal.main_v27) = v1 c
          ∧ r.2.mem ((c.tc : Thread Cert.ScaleXIdeal.nD Cert.ScaleXIdeal.τ).loc Cert.ScaleXIdeal.main_arg0) = m' ((c.tc : Thread Cert.ScaleXIdeal.nD Cert.ScaleXIdeal.τ).loc Cert.ScaleXIdeal.main_arg0)
          ∧ r.2.mem ((c.tc : Thread Cert.ScaleXIdeal.nD Cert.ScaleXIdeal.τ).loc Cert.ScaleXIdeal.main_arg1) = m' ((c.tc : Thread Cert.ScaleXIdeal.nD Cert.ScaleXIdeal.τ).loc Cert.ScaleXIdeal.main_arg1)
          ∧ r.2.mem ((c.tc : Thread Cert.ScaleXIdeal.nD Cert.ScaleXIdeal.τ).loc Cert.ScaleXIdeal.main_arg2) = m' ((c.tc : Thread Cert.ScaleXIdeal.nD Cert.ScaleXIdeal.τ).loc Cert.ScaleXIdeal.main_arg2))

def Claim : Prop :=
  ∃ (hKernel : Cert.Kernel.Facts) (hKernelIdeal : Cert.KernelIdeal.Facts) (hReferenceIdeal : Cert.ReferenceIdeal.Facts) (hQuantDy : Cert.QuantDy.Facts) (hQuantDyIdeal : Cert.QuantDyIdeal.Facts) (hScaleDyIdeal : Cert.ScaleDyIdeal.Facts) (hQuantX : Cert.QuantX.Facts) (hQuantXIdeal : Cert.QuantXIdeal.Facts) (hScaleXIdeal : Cert.ScaleXIdeal.Facts),
    quiescent_Kernel (hKernel := hKernel)
    ∧ quiescent_KernelIdeal (hKernelIdeal := hKernelIdeal)
    ∧ quiescent_ReferenceIdeal (hReferenceIdeal := hReferenceIdeal)
    ∧ quiescent_QuantDy (hQuantDy := hQuantDy)
    ∧ quiescent_QuantDyIdeal (hQuantDyIdeal := hQuantDyIdeal)
    ∧ quiescent_ScaleDyIdeal (hScaleDyIdeal := hScaleDyIdeal)
    ∧ quiescent_QuantX (hQuantX := hQuantX)
    ∧ quiescent_QuantXIdeal (hQuantXIdeal := hQuantXIdeal)
    ∧ quiescent_ScaleXIdeal (hScaleXIdeal := hScaleXIdeal)
    ∧ preserves_Kernel_KernelIdeal
    ∧ algebraic_KernelIdeal_ReferenceIdeal (hKernelIdeal := hKernelIdeal) (hReferenceIdeal := hReferenceIdeal)
    ∧ preserves_QuantDy_QuantDyIdeal
    ∧ algebraic_QuantDyIdeal_ScaleDyIdeal (hQuantDyIdeal := hQuantDyIdeal) (hScaleDyIdeal := hScaleDyIdeal)
    ∧ preserves_QuantX_QuantXIdeal
    ∧ algebraic_QuantXIdeal_ScaleXIdeal (hQuantXIdeal := hQuantXIdeal) (hScaleXIdeal := hScaleXIdeal)
-- ==== Kernel.lean ====
abbrev S8448x11520 : Shape := ⟨2, ![8448, 11520]⟩
abbrev S2944x8448 : Shape := ⟨2, ![2944, 8448]⟩
abbrev S1x1 : Shape := ⟨2, ![1, 1]⟩
abbrev S11520x2880 : Shape := ⟨2, ![11520, 2880]⟩
abbrev S1408x1152 : Shape := ⟨2, ![1408, 1152]⟩
abbrev S2880x1408 : Shape := ⟨2, ![2880, 1408]⟩
abbrev S1152x2880 : Shape := ⟨2, ![1152, 2880]⟩

abbrev nBuf : Space → Nat
  | .hbm => 6
  | .vmem => 7
  | .smem => 0
  | _ => 0

abbrev bufTy : (tb : Table) → Fin (tcTables nBuf tb) → BufTy
  | .hbm, ⟨0, _⟩ => ⟨S8448x11520, .bf16⟩
  | .hbm, ⟨1, _⟩ => ⟨S2944x8448, .bf16⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S11520x2880, .f32⟩
  | .local _ .vmem, ⟨0, _⟩ => ⟨S1x1, .f32⟩
  | .local _ .vmem, ⟨1, _⟩ => ⟨S1408x1152, .bf16⟩
  | .local _ .vmem, ⟨2, _⟩ => ⟨S1408x1152, .bf16⟩
  | .local _ .vmem, ⟨3, _⟩ => ⟨S2880x1408, .bf16⟩
  | .local _ .vmem, ⟨4, _⟩ => ⟨S2880x1408, .bf16⟩
  | .local _ .vmem, ⟨5, _⟩ => ⟨S1152x2880, .f32⟩
  | .local _ .vmem, ⟨6, _⟩ => ⟨S1152x2880, .f32⟩
  | _, _ => ⟨S8448x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 10, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1408x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2880x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1152x2880 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== ReferenceIdeal.lean ====
abbrev S8448x11520 : Shape := ⟨2, ![8448, 11520]⟩
abbrev S2944x8448 : Shape := ⟨2, ![2944, 8448]⟩
abbrev S1x1 : Shape := ⟨2, ![1, 1]⟩
abbrev S2880x8448 : Shape := ⟨2, ![2880, 8448]⟩
abbrev S11520x2880 : Shape := ⟨2, ![11520, 2880]⟩

abbrev nBuf : Space → Nat
  | .hbm => 9
  | .vmem => 0
  | .smem => 0
  | _ => 0

abbrev bufTy : (tb : Table) → Fin (tcTables nBuf tb) → BufTy
  | .hbm, ⟨0, _⟩ => ⟨S8448x11520, .bf16⟩
  | .hbm, ⟨1, _⟩ => ⟨S2944x8448, .bf16⟩
  | .hbm, ⟨2, _⟩ => ⟨S1x1, .f32⟩
  | .hbm, ⟨3, _⟩ => ⟨S1x1, .f32⟩
  | .hbm, ⟨4, _⟩ => ⟨S2880x8448, .bf16⟩
  | .hbm, ⟨5, _⟩ => ⟨S11520x2880, .f32⟩
  | .hbm, ⟨6, _⟩ => ⟨S1x1, .f32⟩
  | .hbm, ⟨7, _⟩ => ⟨S11520x2880, .f32⟩
  | .hbm, ⟨8, _⟩ => ⟨S11520x2880, .f32⟩
  | _, _ => ⟨S8448x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QuantDy.lean ====
abbrev S6x1408x11520 : Shape := ⟨3, ![6, 1408, 11520]⟩
abbrev S16 : Shape := ⟨1, ![16]⟩
abbrev S24 : Shape := ⟨1, ![24]⟩
abbrev S1x24 : Shape := ⟨2, ![1, 24]⟩
abbrev S6x704x11520 : Shape := ⟨3, ![6, 704, 11520]⟩
abbrev S6x88x11520 : Shape := ⟨3, ![6, 88, 11520]⟩
abbrev S8448x11520 : Shape := ⟨2, ![8448, 11520]⟩
abbrev S1x128 : Shape := ⟨2, ![1, 128]⟩
abbrev S1x1 : Shape := ⟨2, ![1, 1]⟩
abbrev S1x1408x128 : Shape := ⟨3, ![1, 1408, 128]⟩
abbrev S1x704x128 : Shape := ⟨3, ![1, 704, 128]⟩
abbrev S1x88x128 : Shape := ⟨3, ![1, 88, 128]⟩
abbrev S1408x128 : Shape := ⟨2, ![1408, 128]⟩
abbrev S88x128 : Shape := ⟨2, ![88, 128]⟩
abbrev S8x128 : Shape := ⟨2, ![8, 128]⟩
abbrev S1x1x24 : Shape := ⟨3, ![1, 1, 24]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S32x128 : Shape := ⟨2, ![32, 128]⟩
abbrev S8x4x128 : Shape := ⟨3, ![8, 4, 128]⟩
abbrev S8x1x128 : Shape := ⟨3, ![8, 1, 128]⟩
abbrev S704x128 : Shape := ⟨2, ![704, 128]⟩
abbrev S64x128 : Shape := ⟨2, ![64, 128]⟩
abbrev S1x704x2x128 : Shape := ⟨4, ![1, 704, 2, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S1x64x128 : Shape := ⟨3, ![1, 64, 128]⟩
abbrev S128 : Shape := ⟨1, ![128]⟩

abbrev nBuf : Space → Nat
  | .hbm => 10
  | .vmem => 15
  | .smem => 1
  | _ => 0

abbrev bufTy : (tb : Table) → Fin (tcTables nBuf tb) → BufTy
  | .hbm, ⟨0, _⟩ => ⟨S6x1408x11520, .bf16⟩
  | .hbm, ⟨1, _⟩ => ⟨S16, .f32⟩
  | .hbm, ⟨2, _⟩ => ⟨S6x1408x11520, .i8⟩
  | .hbm, ⟨3, _⟩ => ⟨S24, .f32⟩
  | .hbm, ⟨4, _⟩ => ⟨S1x24, .f32⟩
  | .hbm, ⟨5, _⟩ => ⟨S6x704x11520, .i8⟩
  | .hbm, ⟨6, _⟩ => ⟨S6x88x11520, .fp8e4m3⟩
  | .hbm, ⟨7, _⟩ => ⟨S8448x11520, .bf16⟩
  | .hbm, ⟨8, _⟩ => ⟨S1x128, .f32⟩
  | .hbm, ⟨9, _⟩ => ⟨S1x1, .f32⟩
  | .local _ .vmem, ⟨0, _⟩ => ⟨S1x24, .f32⟩
  | .local _ .vmem, ⟨1, _⟩ => ⟨S1x1408x128, .bf16⟩
  | .local _ .vmem, ⟨2, _⟩ => ⟨S1x1408x128, .bf16⟩
  | .local _ .vmem, ⟨3, _⟩ => ⟨S1x1408x128, .i8⟩
  | .local _ .vmem, ⟨4, _⟩ => ⟨S1x1408x128, .i8⟩
  | .local _ .vmem, ⟨5, _⟩ => ⟨S1x704x128, .i8⟩
  | .local _ .vmem, ⟨6, _⟩ => ⟨S1x704x128, .i8⟩
  | .local _ .vmem, ⟨7, _⟩ => ⟨S1x88x128, .fp8e4m3⟩
  | .local _ .vmem, ⟨8, _⟩ => ⟨S1x88x128, .fp8e4m3⟩
  | .local _ .vmem, ⟨9, _⟩ => ⟨S1408x128, .bf16⟩
  | .local _ .vmem, ⟨10, _⟩ => ⟨S1408x128, .bf16⟩
  | .local _ .vmem, ⟨11, _⟩ => ⟨S1x128, .f32⟩
  | .local _ .vmem, ⟨12, _⟩ => ⟨S1x1, .f32⟩
  | .local _ .vmem, ⟨13, _⟩ => ⟨S88x128, .f32⟩
  | .local _ .vmem, ⟨14, _⟩ => ⟨S8x128, .f32⟩
  | .local _ .smem, ⟨0, _⟩ => ⟨S16, .f32⟩
  | _, _ => ⟨S6x1408x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [BitOps F]

abbrev grid0 : Pipeline.Grid := ⟨2, ![6, 90], ![false, false]⟩

@[reducible] def k0_t1_loop : Scf.Loop 32 :=
  let c0_i32_26 : BitVec 32 := 0#32
  let c11_i32 : BitVec 32 := 11#32
  let v56 : BitVec 32 := Scalar.addi c0_i32_26 c11_i32
  let c1_i32 : BitVec 32 := 1#32
  ⟨c0_i32_26, v56, c1_i32⟩
def k0_mult1 (k0_t1 : Fin k0_t1_loop.trips) : BitVec 32 :=
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  v66
def k0_mult2 (k0_t1 : Fin k0_t1_loop.trips) : BitVec 32 :=
  let c0_i32_26 : BitVec 32 := 0#32
  let c1_i32 : BitVec 32 := 1#32
  let arg13 : BitVec 32 := Scf.iv c0_i32_26 c1_i32 k0_t1
  let c128_i32_38 : BitVec 32 := 128#32
  let v68 : BitVec 32 := Scalar.muli arg13 c128_i32_38
  v68
def k0_off1 (k0_t1 : Fin k0_t1_loop.trips) : Fin 3 → Nat :=
  let c0_39 : Index := 0#32
  let c0_i32_26 : BitVec 32 := 0#32
  let c1_i32 : BitVec 32 := 1#32
  let arg13 : BitVec 32 := Scf.iv c0_i32_26 c1_i32 k0_t1
  let c128_i32_38 : BitVec 32 := 128#32
  let v68 : BitVec 32 := Scalar.muli arg13 c128_i32_38
  let v69 : BitVec 32 := v68
  let v70 : Index := Scalar.indexCast v69
  let c0_40 : Index := 0#32
  ![0, v70.toNat, 0]
def k0_off2 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_46 : BitVec 32 := 0#32
  ![0, v67.toNat, 0, 0]
def k0_off3 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_51 : BitVec 32 := 0#32
  ![0, Nat.add v67.toNat 1, 0, 0]
def k0_off4 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_58 : BitVec 32 := 0#32
  ![0, Nat.add v67.toNat 2, 0, 0]
def k0_off5 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_65 : BitVec 32 := 0#32
  ![0, Nat.add v67.toNat 3, 0, 0]
def k0_off6 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_72 : BitVec 32 := 0#32
  ![0, Nat.add v67.toNat 4, 0, 0]
def k0_off7 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_79 : BitVec 32 := 0#32
  ![0, Nat.add v67.toNat 5, 0, 0]
def k0_off8 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_86 : BitVec 32 := 0#32
  ![0, Nat.add v67.toNat 6, 0, 0]
def k0_off9 (k0_t1 : Fin k0_t1_loop.trips) : Fin 4 → Nat :=
  let c0_i32_25 : BitVec 32 := 0#32
  let c0_i32_26 : BitVec 32 := 0#32
  let c1_i32 : BitVec 32 := 1#32
  let arg13 : BitVec 32 := Scf.iv c0_i32_26 c1_i32 k0_t1
  let c64_i32 : BitVec 32 := 64#32
  let v66 : BitVec 32 := Scalar.muli arg13 c64_i32
  let v67 : BitVec 32 := v66
  let c0_i32_93 : BitVec 32 := 0#32
  ![0, Nat.add v67.toNat 7, 0, 0]
def k0_off10 (k0_t1 : Fin k0_t1_loop.trips) : Fin 2 → Nat :=
  let c0_i32_26 : BitVec 32 := 0#32
  let c1_i32 : BitVec 32 := 1#32
  let arg13 : BitVec 32 := Scf.iv c0_i32_26 c1_i32 k0_t1
  let c8_i32_693 : BitVec 32 := 8#32
  let v1815 : BitVec 32 := Scalar.muli arg13 c8_i32_693
  let v1816 : Index := Scalar.indexCast v1815
  let c0_694 : Index := 0#32
  ![v1816.toNat, 0]
def k0_mult3 (k0_t1 : Fin k0_t1_loop.trips) : BitVec 32 :=
  let c0_i32_26 : BitVec 32 := 0#32
  let c1_i32 : BitVec 32 := 1#32
  let arg13 : BitVec 32 := Scf.iv c0_i32_26 c1_i32 k0_t1
  let c64_i32_695 : BitVec 32 := 64#32
  let v1838 : BitVec 32 := Scalar.muli arg13 c64_i32_695
  v1838
def k0_off11 (k0_t1 : Fin k0_t1_loop.trips) : Fin 3 → Nat :=
  let c0_696 : Index := 0#32
  let c0_i32_26 : BitVec 32 := 0#32
  let c1_i32 : BitVec 32 := 1#32
  let arg13 : BitVec 32 := Scf.iv c0_i32_26 c1_i32 k0_t1
  let c64_i32_695 : BitVec 32 := 64#32
  let v1838 : BitVec 32 := Scalar.muli arg13 c64_i32_695
  let v1839 : BitVec 32 := v1838
  let v1840 : Index := Scalar.indexCast v1839
  let c0_697 : Index := 0#32
  ![0, v1840.toNat, 0]
def k0_mult4 (k0_t1 : Fin k0_t1_loop.trips) : BitVec 32 :=
  let c0_i32_26 : BitVec 32 := 0#32
  let c1_i32 : BitVec 32 := 1#32
  let arg13 : BitVec 32 := Scf.iv c0_i32_26 c1_i32 k0_t1
  let c128_i32_698 : BitVec 32 := 128#32
  let v1845 : BitVec 32 := Scalar.muli arg13 c128_i32_698
  v1845
def k0_off12 (k0_t1 : Fin k0_t1_loop.trips) : Fin 2 → Nat :=
  let c0_i32_26 : BitVec 32 := 0#32
  let c1_i32 : BitVec 32 := 1#32
  let arg13 : BitVec 32 := Scf.iv c0_i32_26 c1_i32 k0_t1
  let c128_i32_698 : BitVec 32 := 128#32
  let v1845 : BitVec 32 := Scalar.muli arg13 c128_i32_698
  let v1846 : BitVec 32 := v1845
  let v1847 : Index := Scalar.indexCast v1846
  let c0_699 : Index := 0#32
  ![v1847.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== QuantDyIdeal.lean ====
variable {F : FTy → Type} [FloatOps F]
-- ==== ScaleDyIdeal.lean ====
abbrev S6x1408x11520 : Shape := ⟨3, ![6, 1408, 11520]⟩
abbrev S16 : Shape := ⟨1, ![16]⟩
abbrev S24 : Shape := ⟨1, ![24]⟩
abbrev S16x16 : Shape := ⟨2, ![16, 16]⟩
abbrev S_ : Shape := ⟨0, ![]⟩
abbrev S1x16 : Shape := ⟨2, ![1, 16]⟩
abbrev S6x88x16x11520 : Shape := ⟨4, ![6, 88, 16, 11520]⟩
abbrev S6x88x11520x16 : Shape := ⟨4, ![6, 88, 11520, 16]⟩
abbrev S1x1 : Shape := ⟨2, ![1, 1]⟩
abbrev S6x88x11520 : Shape := ⟨3, ![6, 88, 11520]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S6x1408x11520, .bf16⟩
  | .hbm, ⟨1, _⟩ => ⟨S16, .f32⟩
  | .hbm, ⟨2, _⟩ => ⟨S6x1408x11520, .i8⟩
  | .hbm, ⟨3, _⟩ => ⟨S24, .f32⟩
  | .hbm, ⟨4, _⟩ => ⟨S16x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .f32⟩
  | .hbm, ⟨18, _⟩ => ⟨S1x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S6x1408x11520, .f32⟩
  | .hbm, ⟨25, _⟩ => ⟨S6x88x16x11520, .f32⟩
  | .hbm, ⟨26, _⟩ => ⟨S6x88x11520x16, .f32⟩
  | .hbm, ⟨27, _⟩ => ⟨S6x88x16x11520, .f32⟩
  | .hbm, ⟨28, _⟩ => ⟨S6x1408x11520, .f32⟩
  | .hbm, ⟨29, _⟩ => ⟨S_, .f32⟩
  | .hbm, ⟨30, _⟩ => ⟨S_, .f32⟩
  | .hbm, ⟨31, _⟩ => ⟨S1x1, .f32⟩
  | .hbm, ⟨32, _⟩ => ⟨S_, .f32⟩
  | .hbm, ⟨33, _⟩ => ⟨S1x1, .f32⟩
  | .hbm, ⟨34, _⟩ => ⟨S1x1, .i1⟩
  | .hbm, ⟨35, _⟩ => ⟨S_, .f32⟩
  | .hbm, ⟨36, _⟩ => ⟨S1x1, .f32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S1x1, .f32⟩
  | .hbm, ⟨42, _⟩ => ⟨S6x88x16x11520, .f32⟩
  | .hbm, ⟨43, _⟩ => ⟨S6x88x16x11520, .f32⟩
  | .hbm, ⟨44, _⟩ => ⟨S_, .f32⟩
  | .hbm, ⟨45, _⟩ => ⟨S6x88x11520, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1x1x1, .f32⟩
  | .hbm, ⟨51, _⟩ => ⟨S6x88x11520, .f32⟩
  | .hbm, ⟨52, _⟩ => ⟨S6x88x11520, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S6x88x11520, .f32⟩
  | .hbm, ⟨57, _⟩ => ⟨S6x88x11520, .f32⟩
  | .hbm, ⟨58, _⟩ => ⟨S_, .f32⟩
  | .hbm, ⟨59, _⟩ => ⟨S6x88x11520, .f32⟩
  | .hbm, ⟨60, _⟩ => ⟨S6x88x11520, .f32⟩
  | .hbm, ⟨61, _⟩ => ⟨S6x88x11520, .fp8e4m3⟩
  | _, _ => ⟨S6x1408x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_cst_9 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== QuantX.lean ====
abbrev S6x1408x2880 : Shape := ⟨3, ![6, 1408, 2880]⟩
abbrev S16 : Shape := ⟨1, ![16]⟩
abbrev S24 : Shape := ⟨1, ![24]⟩
abbrev S1x24 : Shape := ⟨2, ![1, 24]⟩
abbrev S6x704x2880 : Shape := ⟨3, ![6, 704, 2880]⟩
abbrev S6x88x2880 : Shape := ⟨3, ![6, 88, 2880]⟩
abbrev S2944x8448 : Shape := ⟨2, ![2944, 8448]⟩
abbrev S1x128 : Shape := ⟨2, ![1, 128]⟩
abbrev S1x1 : Shape := ⟨2, ![1, 1]⟩
abbrev S1x1408x128 : Shape := ⟨3, ![1, 1408, 128]⟩
abbrev S1x704x128 : Shape := ⟨3, ![1, 704, 128]⟩
abbrev S1x88x128 : Shape := ⟨3, ![1, 88, 128]⟩
abbrev S128x1408 : Shape := ⟨2, ![128, 1408]⟩
abbrev S88x128 : Shape := ⟨2, ![88, 128]⟩
abbrev S8x128 : Shape := ⟨2, ![8, 128]⟩
abbrev S1x1x24 : Shape := ⟨3, ![1, 1, 24]⟩
abbrev S1 : Shape := ⟨1, ![1]⟩
abbrev S1x1x1 : Shape := ⟨3, ![1, 1, 1]⟩
abbrev S1408x128 : Shape := ⟨2, ![1408, 128]⟩
abbrev S704x128 : Shape := ⟨2, ![704, 128]⟩
abbrev S64x128 : Shape := ⟨2, ![64, 128]⟩
abbrev S1x704x2x128 : Shape := ⟨4, ![1, 704, 2, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S1x64x128 : Shape := ⟨3, ![1, 64, 128]⟩
abbrev S128x128 : Shape := ⟨2, ![128, 128]⟩
abbrev S128 : Shape := ⟨1, ![128]⟩

abbrev nBuf : Space → Nat
  | .hbm => 9
  | .vmem => 13
  | .smem => 1
  | _ => 0

abbrev bufTy : (tb : Table) → Fin (tcTables nBuf tb) → BufTy
  | .hbm, ⟨0, _⟩ => ⟨S6x1408x2880, .bf16⟩
  | .hbm, ⟨1, _⟩ => ⟨S16, .f32⟩
  | .hbm, ⟨2, _⟩ => ⟨S24, .f32⟩
  | .hbm, ⟨3, _⟩ => ⟨S1x24, .f32⟩
  | .hbm, ⟨4, _⟩ => ⟨S6x704x2880, .i8⟩
  | .hbm, ⟨5, _⟩ => ⟨S6x88x2880, .fp8e4m3⟩
  | .hbm, ⟨6, _⟩ => ⟨S2944x8448, .bf16⟩
  | .hbm, ⟨7, _⟩ => ⟨S1x128, .f32⟩
  | .hbm, ⟨8, _⟩ => ⟨S1x1, .f32⟩
  | .local _ .vmem, ⟨0, _⟩ => ⟨S1x24, .f32⟩
  | .local _ .vmem, ⟨1, _⟩ => ⟨S1x1408x128, .bf16⟩
  | .local _ .vmem, ⟨2, _⟩ => ⟨S1x1408x128, .bf16⟩
  | .local _ .vmem, ⟨3, _⟩ => ⟨S1x704x128, .i8⟩
  | .local _ .vmem, ⟨4, _⟩ => ⟨S1x704x128, .i8⟩
  | .local _ .vmem, ⟨5, _⟩ => ⟨S1x88x128, .fp8e4m3⟩
  | .local _ .vmem, ⟨6, _⟩ => ⟨S1x88x128, .fp8e4m3⟩
  | .local _ .vmem, ⟨7, _⟩ => ⟨S128x1408, .bf16⟩
  | .local _ .vmem, ⟨8, _⟩ => ⟨S128x1408, .bf16⟩
  | .local _ .vmem, ⟨9, _⟩ => ⟨S1x128, .f32⟩
  | .local _ .vmem, ⟨10, _⟩ => ⟨S1x1, .f32⟩
  | .local _ .vmem, ⟨11, _⟩ => ⟨S88x128, .f32⟩
  | .local _ .vmem, ⟨12, _⟩ => ⟨S8x128, .f32⟩
  | .local _ .smem, ⟨0, _⟩ => ⟨S16, .f32⟩
  | _, _ => ⟨S6x1408x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [BitOps F]

abbrev grid0 : Pipeline.Grid := ⟨2, ![6, 23], ![false, false]⟩

@[reducible] def k0_t1_loop : Scf.Loop 32 :=
  let c0_i32_26 : BitVec 32 := 0#32
  let c11_i32 : BitVec 32 := 11#32
  let v56 : BitVec 32 := Scalar.addi c0_i32_26 c11_i32
  let c1_i32 : BitVec 32 := 1#32
  ⟨c0_i32_26, v56, c1_i32⟩
def k0_mult1 (k0_t1 : Fin k0_t1_loop.trips) : BitVec 32 :=
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  v66
def k0_off1 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_39 : BitVec 32 := 0#32
  ![0, v67.toNat, 0, 0]
def k0_off2 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_44 : BitVec 32 := 0#32
  ![0, Nat.add v67.toNat 1, 0, 0]
def k0_off3 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_51 : BitVec 32 := 0#32
  ![0, Nat.add v67.toNat 2, 0, 0]
def k0_off4 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_58 : BitVec 32 := 0#32
  ![0, Nat.add v67.toNat 3, 0, 0]
def k0_off5 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_65 : BitVec 32 := 0#32
  ![0, Nat.add v67.toNat 4, 0, 0]
def k0_off6 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_72 : BitVec 32 := 0#32
  ![0, Nat.add v67.toNat 5, 0, 0]
def k0_off7 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_79 : BitVec 32 := 0#32
  ![0, Nat.add v67.toNat 6, 0, 0]
def k0_off8 (k0_t1 : Fin k0_t1_loop.trips) : Fin 4 → Nat :=
  let c0_i32_25 : BitVec 32 := 0#32
  let c0_i32_26 : BitVec 32 := 0#32
  let c1_i32 : BitVec 32 := 1#32
  let arg12 : BitVec 32 := Scf.iv c0_i32_26 c1_i32 k0_t1
  let c64_i32 : BitVec 32 := 64#32
  let v66 : BitVec 32 := Scalar.muli arg12 c64_i32
  let v67 : BitVec 32 := v66
  let c0_i32_86 : BitVec 32 := 0#32
  ![0, Nat.add v67.toNat 7, 0, 0]
def k0_off9 (k0_t1 : Fin k0_t1_loop.trips) : Fin 2 → Nat :=
  let c0_i32_26 : BitVec 32 := 0#32
  let c1_i32 : BitVec 32 := 1#32
  let arg12 : BitVec 32 := Scf.iv c0_i32_26 c1_i32 k0_t1
  let c8_i32_357 : BitVec 32 := 8#32
  let v1012 : BitVec 32 := Scalar.muli arg12 c8_i32_357
  let v1013 : Index := Scalar.indexCast v1012
  let c0_358 : Index := 0#32
  ![v1013.toNat, 0]
def k0_mult2 (k0_t1 : Fin k0_t1_loop.trips) : BitVec 32 :=
  let c0_i32_26 : BitVec 32 := 0#32
  let c1_i32 : BitVec 32 := 1#32
  let arg12 : BitVec 32 := Scf.iv c0_i32_26 c1_i32 k0_t1
  let c64_i32_359 : BitVec 32 := 64#32
  let v1035 : BitVec 32 := Scalar.muli arg12 c64_i32_359
  v1035
def k0_off10 (k0_t1 : Fin k0_t1_loop.trips) : Fin 3 → Nat :=
  let c0_360 : Index := 0#32
  let c0_i32_26 : BitVec 32 := 0#32
  let c1_i32 : BitVec 32 := 1#32
  let arg12 : BitVec 32 := Scf.iv c0_i32_26 c1_i32 k0_t1
  let c64_i32_359 : BitVec 32 := 64#32
  let v1035 : BitVec 32 := Scalar.muli arg12 c64_i32_359
  let v1036 : BitVec 32 := v1035
  let v1037 : Index := Scalar.indexCast v1036
  let c0_361 : Index := 0#32
  ![0, v1037.toNat, 0]
def k0_mult3 (k0_t1 : Fin k0_t1_loop.trips) : BitVec 32 :=
  let c0_i32_26 : BitVec 32 := 0#32
  let c1_i32 : BitVec 32 := 1#32
  let arg12 : BitVec 32 := Scf.iv c0_i32_26 c1_i32 k0_t1
  let c128_i32_362 : BitVec 32 := 128#32
  let v1043 : BitVec 32 := Scalar.muli arg12 c128_i32_362
  v1043
def k0_off11 (k0_t1 : Fin k0_t1_loop.trips) : Fin 2 → Nat :=
  let c0_363 : Index := 0#32
  let c0_i32_26 : BitVec 32 := 0#32
  let c1_i32 : BitVec 32 := 1#32
  let arg12 : BitVec 32 := Scf.iv c0_i32_26 c1_i32 k0_t1
  let c128_i32_362 : BitVec 32 := 128#32
  let v1043 : BitVec 32 := Scalar.muli arg12 c128_i32_362
  let v1044 : BitVec 32 := v1043
  let v1045 : Index := Scalar.indexCast v1044
  ![0, v1045.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x88x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== QuantXIdeal.lean ====
variable {F : FTy → Type} [FloatOps F]
-- ==== ScaleXIdeal.lean ====
abbrev S6x1408x2880 : Shape := ⟨3, ![6, 1408, 2880]⟩
abbrev S16 : Shape := ⟨1, ![16]⟩
abbrev S24 : Shape := ⟨1, ![24]⟩
abbrev S16x16 : Shape := ⟨2, ![16, 16]⟩
abbrev S_ : Shape := ⟨0, ![]⟩
abbrev S1x16 : Shape := ⟨2, ![1, 16]⟩
abbrev S6x88x16x2880 : Shape := ⟨4, ![6, 88, 16, 2880]⟩
abbrev S6x88x2880x16 : Shape := ⟨4, ![6, 88, 2880, 16]⟩
abbrev S1x1 : Shape := ⟨2, ![1, 1]⟩
abbrev S6x88x2880 : Shape := ⟨3, ![6, 88, 2880]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S6x1408x2880, .bf16⟩
  | .hbm, ⟨1, _⟩ => ⟨S16, .f32⟩
  | .hbm, ⟨2, _⟩ => ⟨S24, .f32⟩
  | .hbm, ⟨3, _⟩ => ⟨S16x16, .i32⟩
  | .hbm, ⟨4, _⟩ => ⟨S16x16, .i32⟩
  | .hbm, ⟨5, _⟩ => ⟨S16x16, .i32⟩
  | .hbm, ⟨6, _⟩ => ⟨S16x16, .i32⟩
  | .hbm, ⟨7, _⟩ => ⟨S_, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .f32⟩
  | .hbm, ⟨17, _⟩ => ⟨S1x16, .f32⟩
  | .hbm, ⟨18, _⟩ => ⟨S16x16, .f32⟩
  | .hbm, ⟨19, _⟩ => ⟨S16x16, .f32⟩
  | .hbm, ⟨20, _⟩ => ⟨S_, .f32⟩
  | .hbm, ⟨21, _⟩ => ⟨S16x16, .f32⟩
  | .hbm, ⟨22, _⟩ => ⟨S16x16, .f32⟩
  | .hbm, ⟨23, _⟩ => ⟨S6x1408x2880, .f32⟩
  | .hbm, ⟨24, _⟩ => ⟨S6x88x16x2880, .f32⟩
  | .hbm, ⟨25, _⟩ => ⟨S6x88x2880x16, .f32⟩
  | .hbm, ⟨26, _⟩ => ⟨S6x88x16x2880, .f32⟩
  | .hbm, ⟨27, _⟩ => ⟨S6x1408x2880, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .i1⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S1x1, .f32⟩
  | .hbm, ⟨40, _⟩ => ⟨S1x1, .f32⟩
  | .hbm, ⟨41, _⟩ => ⟨S6x88x16x2880, .f32⟩
  | .hbm, ⟨42, _⟩ => ⟨S6x88x16x2880, .f32⟩
  | .hbm, ⟨43, _⟩ => ⟨S_, .f32⟩
  | .hbm, ⟨44, _⟩ => ⟨S6x88x2880, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1x1, .f32⟩
  | .hbm, ⟨50, _⟩ => ⟨S6x88x2880, .f32⟩
  | .hbm, ⟨51, _⟩ => ⟨S6x88x2880, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S6x88x2880, .f32⟩
  | .hbm, ⟨56, _⟩ => ⟨S6x88x2880, .f32⟩
  | .hbm, ⟨57, _⟩ => ⟨S_, .f32⟩
  | .hbm, ⟨58, _⟩ => ⟨S6x88x2880, .f32⟩
  | .hbm, ⟨59, _⟩ => ⟨S6x88x2880, .f32⟩
  | .hbm, ⟨60, _⟩ => ⟨S6x88x2880, .fp8e4m3⟩
  | _, _ => ⟨S6x1408x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_cst_9 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Cases.lean ====
/-
  What the body of the matmul call leaves in the output block at a grid point, case by case.

  The body has three cases along the contraction axis of the grid. At the first step the block is zeroed and the product
  of the two input blocks is added; at a middle step the product is added; at the last step the product is added and the
  sum is multiplied by the tensor scale. `step` is "the block plus the product" and `scaled` the multiplication; the
  three theorems say that the generated contents of the block (`Gen.out0_A_3`, `Gen.out0_B_3`, `Gen.out0_C_3`) are these.
-/
module

public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- One step of the contraction: the block `acc` plus the product of the two input blocks. -/
def step (dy : Vec F S1408x1152 .bf16) (xt : Vec F S2880x1408 .bf16) (acc : Vec F S1152x2880 .f32) : Vec F S1152x2880 .f32 :=
  k0_pay2 acc dy xt

/-- The block times the tensor scale. -/
def scaled (ts : Vec F S1x1 .f32) (acc : Vec F S1152x2880 .f32) : Vec F S1152x2880 .f32 := k0_pay3 acc ts

variable (c : Dev nD) (i : grid0.Coords) (a3 : Memref sig .tc .vmem S1x1 .f32) (h3 : a3.IsWhole)
  (a4 : Memref sig .tc .vmem S1408x1152 .bf16) (h4 : a4.IsWhole) (a5 : Memref sig .tc .vmem S2880x1408 .bf16) (h5 : a5.IsWhole)
  (a6 : Memref sig .tc .vmem S1152x2880 .f32) (h6 : a6.IsWhole)
  (x0 : Vec F S1x1 .f32) (x1 : Vec F S1408x1152 .bf16) (x2 : Vec F S2880x1408 .bf16)

/-- The first step of the contraction leaves the product added to the zero block. -/
theorem out_A (hc0 : cond0_0 i) (hc1 : ¬cond0_1 i) :
    out0_A_3 c i a3 h3 a4 h4 a5 h5 a6 h6 hc0 hc1 x0 x1 x2 = step x1 x2 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S1152x2880) hz, View.readCov_unit_zero (S := S1152x2880) _ hz]
  unfold step
  simp only [View.readAt_eq_ld, h4.read_unread, h5.read_unread, View.ld_unit_zero (S := S1408x1152) hz, View.ld_unit_zero (S := S2880x1408) hz]

/-- A middle step leaves the product added to what the block held. -/
theorem out_B (hc0 : ¬cond0_0 i) (hc1 : ¬cond0_1 i) (xo : Vec F S1152x2880 .f32) :
    out0_B_3 c i a3 h3 a4 h4 a5 h5 a6 h6 hc0 hc1 x0 x1 x2 xo = step x1 x2 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  unfold step
  simp only [View.readAt_eq_ld, h4.read_unread, h5.read_unread, h6.read_unread, View.ld_unit_zero (S := S1408x1152) hz, View.ld_unit_zero (S := S2880x1408) hz, View.ld_unit_zero (S := S1152x2880) hz]

/-- The last step leaves the product added to what the block held, the sum times the tensor scale. -/
theorem out_C (hc0 : ¬cond0_0 i) (hc1 : cond0_1 i) (xo : Vec F S1152x2880 .f32) :
    out0_C_3 c i a3 h3 a4 h4 a5 h5 a6 h6 hc0 hc1 x0 x1 x2 xo = scaled x0 (step x1 x2 xo) := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S1152x2880) hz, View.readCov_unit_zero (S := S1152x2880) _ hz]
  unfold step scaled
  simp only [View.readAt_eq_ld, h3.read_unread, h4.read_unread, h5.read_unread, h6.read_unread, View.ld_unit_zero (S := S1x1) hz, View.ld_unit_zero (S := S1408x1152) hz, View.ld_unit_zero (S := S2880x1408) hz, View.ld_unit_zero (S := S1152x2880) hz]

end Cert.KernelIdeal.Hand

end
-- ==== Proof.Payload.lean ====
/-
  The kernel's two payloads read at one element over the extended reals: a step of the contraction adds the sum over the
  1408 rows of the block, and the last step multiplies by the tensor scale.
-/
module

public import proofs.«01_k».proof.Proof.Cases
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen Idealize.ShloMosaic Idealize.ShloMosaic.TcCoe Idealize.SL.Sem
open scoped BigOperators

abbrev D := dot_S1408x1152_S2880x1408_S1152x2880_0_1_1_0_n_n

/-- Where output element `i` reads the two blocks at contraction step `l`. -/
abbrev lix (i : S1152x2880.Idx) (l : Fin 1408) : S1408x1152.Idx := fun a => match a with
  | ⟨0, _⟩ => ⟨l.val, l.isLt⟩
  | ⟨1, _⟩ => ⟨(i 0).val, (i 0).isLt⟩
abbrev rix (i : S1152x2880.Idx) (l : Fin 1408) : S2880x1408.Idx := fun a => match a with
  | ⟨0, _⟩ => ⟨(i 1).val, (i 1).isLt⟩
  | ⟨1, _⟩ => ⟨l.val, l.isLt⟩

theorem lhs_0 (i : S1152x2880.Idx) (q : D.contr.Idx) : (D.lhsIdx i q 0).val = (q ⟨0, by decide⟩).val :=
  D.lhsIdx_val_of_single rfl i q
theorem lhs_1 (i : S1152x2880.Idx) (q : D.contr.Idx) : (D.lhsIdx i q 1).val = (i 0).val := by
  unfold DotDims.lhsIdx
  rw [dif_neg (show ¬(1 : Fin S1408x1152.rank) ∈ D.lhsBatch by decide), dif_pos (show (1 : Fin S1408x1152.rank) ∈ D.lhsNonContracting by decide)]
  rfl
theorem rhs_0 (i : S1152x2880.Idx) (q : D.contr.Idx) : (D.rhsIdx i q 0).val = (i 1).val := by
  unfold DotDims.rhsIdx
  rw [dif_neg (show ¬(0 : Fin S2880x1408.rank) ∈ D.rhsBatch by decide), dif_pos (show (0 : Fin S2880x1408.rank) ∈ D.rhsNonContracting by decide)]
  rfl
theorem rhs_1 (i : S1152x2880.Idx) (q : D.contr.Idx) : (D.rhsIdx i q 1).val = (q ⟨0, by decide⟩).val :=
  D.rhsIdx_val_of_single rfl i q

/-- The zero block is zero everywhere. -/
theorem zero_apply (i : S1152x2880.Idx) : (k0_pay1 (F := Ideal)) i = (0 : EReal) := by
  unfold k0_pay1
  show Ideal.ofBits .f32 0x00000000#32 = 0
  simp [Ideal.ofBits, Ideal.ieee]

/-- A step of the contraction at one element: what was there plus the sum of the products over the block's rows. -/
theorem step_apply (dy : Vec Ideal S1408x1152 .bf16) (xt : Vec Ideal S2880x1408 .bf16) (acc : Vec Ideal S1152x2880 .f32)
    (i : S1152x2880.Idx) :
    step dy xt acc i = (acc i + ∑ l : Fin 1408, (dy (lix i l) : EReal) * xt (rix i l) : EReal) := by
  unfold step k0_pay2
  rw [shapeCast_self]
  show (acc i + matmul (F := Ideal) D none dy xt (constant S1152x2880 .f32 0x00000000#32) i : EReal) = _
  congr 1
  show (Ideal.ofBits .f32 0x00000000#32 + ∑ k, _ : EReal) = _
  rw [show Ideal.ofBits .f32 0x00000000#32 = 0 by simp [Ideal.ofBits, Ideal.ieee], zero_add,
    ← Equiv.sum_comp (ValueIdx.contrEquiv1 D 1408 rfl rfl).symm]
  refine Finset.sum_congr rfl fun k _ => ?_
  have hk := ValueIdx.contrEquiv1_symm_val D 1408 rfl rfl k
  have el : D.lhsIdx i ((ValueIdx.contrEquiv1 D 1408 rfl rfl).symm k) = lix i k := funext fun a => Fin.ext (by
    match a with
    | ⟨0, _⟩ => exact (lhs_0 _ _).trans hk
    | ⟨1, _⟩ => exact lhs_1 _ _)
  have er : D.rhsIdx i ((ValueIdx.contrEquiv1 D 1408 rfl rfl).symm k) = rix i k := funext fun a => Fin.ext (by
    match a with
    | ⟨0, _⟩ => exact rhs_0 _ _
    | ⟨1, _⟩ => exact (rhs_1 _ _).trans hk)
  rw [el, er]

/-- The one element of a scalar block. -/
abbrev o : S1x1.Idx := fun a => match a with
  | ⟨0, _⟩ => ⟨0, Nat.one_pos⟩
  | ⟨1, _⟩ => ⟨0, Nat.one_pos⟩

/-- The last step's scaling at one element. -/
theorem scaled_apply (ts : Vec Ideal S1x1 .f32) (acc : Vec Ideal S1152x2880 .f32) (i : S1152x2880.Idx) :
    scaled ts acc i = ((acc i : EReal) * ts o : EReal) := by
  unfold scaled k0_pay3
  rw [shapeCast_self, shapeCast_self]
  show ((acc i : EReal) * broadcastTo S1152x2880 ts broadcasts_S1x1_S1152x2880 i : EReal) = _
  congr 1
  unfold broadcastTo
  congr 1
  funext a
  apply Fin.ext
  match a with
  | ⟨0, _⟩ => rfl
  | ⟨1, _⟩ => rfl

end Cert.KernelIdeal.Hand

end
-- ==== Proof.Fold.lean ====
/-
  The output block of the matmul call after any grid point, over the extended reals.

  Grid point `t` works on block row `t / 6` of the result and on step `t % 6` of the contraction. The element of the result
  at row `I`, column `J` is the sum over the 8448 tokens `r` of `dy[r, I] * xt[J, r]`; `term` is one summand. After point `t`
  the block holds the sum over the first `1408 * (t % 6 + 1)` tokens (`held_eq`, by induction on the point), and after a last
  step that whole sum times the tensor scale (`last_eq`).
-/
module

public import proofs.«01_k».proof.Proof.Payload
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The arguments: the gradient's values, the transposed activations' values, the two tensor scales. -/
abbrev dyA (c : Dev nD) : Vec Ideal S8448x11520 .bf16 := m ((c : Thread nD τ).loc main_arg0)
abbrev xtA (c : Dev nD) : Vec Ideal S2944x8448 .bf16 := m ((c : Thread nD τ).loc main_arg1)
abbrev xsA (c : Dev nD) : Vec Ideal S1x1 .f32 := m ((c : Thread nD τ).loc main_arg2)
abbrev dsA (c : Dev nD) : Vec Ideal S1x1 .f32 := m ((c : Thread nD τ).loc main_arg3)

/-- Where the result at row `I`, column `J` reads the two arguments at token `r`. -/
abbrev gl (r : Fin 8448) (I : Fin 11520) : S8448x11520.Idx := fun a => match a with
  | ⟨0, _⟩ => ⟨r.val, r.isLt⟩
  | ⟨1, _⟩ => ⟨I.val, I.isLt⟩
abbrev gr (r : Fin 8448) (J : Fin 2880) : S2944x8448.Idx := fun a => match a with
  | ⟨0, _⟩ => ⟨J.val, by have := J.isLt; show J.val < 2944; omega⟩
  | ⟨1, _⟩ => ⟨r.val, r.isLt⟩

/-- Token `r`'s summand of the result at row `I`, column `J`; past the last token there is none. -/
def term (c : Dev nD) (I : Fin 11520) (J : Fin 2880) (r : ℕ) : EReal :=
  if h : r < 8448 then (dyA m c (gl ⟨r, h⟩ I) : EReal) * xtA m c (gr ⟨r, h⟩ J) else 0

theorem idx_ext₂ {n₀ n₁ : ℕ} {i j : (Shape.mk 2 ![n₀, n₁]).Idx} (h0 : (i 0).val = (j 0).val) (h1 : (i 1).val = (j 1).val) : i = j :=
  funext fun a => Fin.ext (match a with | ⟨0, _⟩ => h0 | ⟨1, _⟩ => h1)

/-! ## The blocks at a point -/

/-- The three input blocks at a point. -/
abbrev tsB (c : Dev nD) (t : Fin cfg0.N) : Vec Ideal S1x1 .f32 := iblk m c 0 t
abbrev dyB (c : Dev nD) (t : Fin cfg0.N) : Vec Ideal S1408x1152 .bf16 := iblk m c 1 t
abbrev xtB (c : Dev nD) (t : Fin cfg0.N) : Vec Ideal S2880x1408 .bf16 := X0_2 m c t

/-- The block indices of the input windows at a point. -/
theorem at1 : ∀ t : Fin grid0.N, win0_1.index t 0 = t.val % 6 ∧ win0_1.index t 1 = t.val / 6 := by decide +kernel
theorem at2 : ∀ t : Fin grid0.N, win0_2.index t 0 = 0 ∧ win0_2.index t 1 = t.val % 6 := by decide +kernel
theorem at3 : ∀ t : Fin grid0.N, win0_3.index t 0 = t.val / 6 ∧ win0_3.index t 1 = 0 := by decide +kernel
theorem at0 : ∀ t : Fin grid0.N, win0_0.index t 0 = 0 ∧ win0_0.index t 1 = 0 := by decide +kernel

/-- The gradient's block at a point. -/
theorem blk1 (c : Dev nD) (t : Fin cfg0.N) (j : S1408x1152.Idx) (g : S8448x11520.Idx)
    (h0 : (g 0).val = t.val % 6 * 1408 + (j 0).val) (h1 : (g 1).val = t.val / 6 * 1152 + (j 1).val) :
    dyB m c t j = dyA m c g := by
  unfold dyB iblk
  rw [View.read_apply]
  show V m c main_arg0 _ = _
  rw [V_main_arg0]
  congr 1
  refine idx_ext₂ (n₀ := 8448) (n₁ := 11520) ?_ ?_
  · show win0_1.index t 0 * 1408 + 1 * (j 0).val = _
    rw [(at1 t).1, h0]; omega
  · show win0_1.index t 1 * 1152 + 1 * (j 1).val = _
    rw [(at1 t).2, h1]; omega

/-- The transposed activations' block at a point. -/
theorem blk2 (c : Dev nD) (t : Fin cfg0.N) (j : S2880x1408.Idx) (g : S2944x8448.Idx)
    (h0 : (g 0).val = (j 0).val) (h1 : (g 1).val = t.val % 6 * 1408 + (j 1).val) :
    xtB m c t j = xtA m c g := by
  unfold xtB X0_2 Pipeline.Window.fill
  rw [dif_pos (moved0_2 t j)]
  unfold iblk
  rw [View.read_apply]
  show V m c main_arg1 _ = _
  rw [V_main_arg1]
  congr 1
  refine idx_ext₂ (n₀ := 2944) (n₁ := 8448) ?_ ?_
  · show win0_2.index t 0 * 2880 + 1 * (j 0).val = _
    rw [(at2 t).1, h0]; omega
  · show win0_2.index t 1 * 1408 + 1 * (j 1).val = _
    rw [(at2 t).2, h1]; omega

/-- The scale the region finds: the product of the two tensor scales. -/
theorem V_scale (c : Dev nD) : (V m c main_v0 : Vec Ideal S1x1 .f32) = mulf (F := Ideal) (φ := .f32) (xsA m c) (dsA m c) := by
  unfold V
  simp only [hostOps0, List.flatten_cons, List.flatten_nil, List.append_nil, List.cons_append, List.nil_append]
  after_results

/-- The scale's block at a point is the product of the two tensor scales. -/
theorem blk0 (c : Dev nD) (t : Fin cfg0.N) : tsB m c t o = ((xsA m c o : EReal) * dsA m c o : EReal) := by
  unfold tsB iblk
  rw [View.read_apply]
  show (V m c main_v0 : Vec Ideal S1x1 .f32) _ = _
  rw [V_scale]
  show mulf (F := Ideal) (φ := .f32) (xsA m c) (dsA m c) _ = mulf (F := Ideal) (φ := .f32) (xsA m c) (dsA m c) o
  congr 1
  refine idx_ext₂ (n₀ := 1) (n₁ := 1) ?_ ?_
  · show win0_0.index t 0 * 1 + 1 * 0 = 0
    rw [(at0 t).1]
  · show win0_0.index t 1 * 1 + 1 * 0 = 0
    rw [(at0 t).2]

/-! ## The fold -/

/-- One point's product at an element of the block: the summands of the point's 1408 tokens. -/
theorem point_eq (c : Dev nD) (t : Fin cfg0.N) (i : S1152x2880.Idx) (I : Fin 11520) (J : Fin 2880)
    (hI : I.val = t.val / 6 * 1152 + (i 0).val) (hJ : J.val = (i 1).val) :
    (∑ l : Fin 1408, (dyB m c t (lix i l) : EReal) * xtB m c t (rix i l) : EReal)
      = ∑ l ∈ Finset.range 1408, term m c I J (1408 * (t.val % 6) + l) := by
  rw [Finset.sum_range]
  refine Finset.sum_congr rfl fun l _ => ?_
  have hl : 1408 * (t.val % 6) + l.val < 8448 := by have := l.isLt; omega
  unfold term
  rw [dif_pos hl, blk1 m c t (lix i l) (gl ⟨_, hl⟩ I) (by show 1408 * (t.val % 6) + l.val = t.val % 6 * 1408 + l.val; omega) hI,
    blk2 m c t (rix i l) (gr ⟨_, hl⟩ J) hJ (by show 1408 * (t.val % 6) + l.val = t.val % 6 * 1408 + l.val; omega)]

/-- After a point that is not a last step, the block holds the sum over the tokens so far. -/
theorem held_eq (c : Dev nD) : ∀ (n : ℕ) (hn : n < cfg0.N) (_ : ¬n % 6 = 5) (i : S1152x2880.Idx) (I : Fin 11520) (J : Fin 2880)
    (_ : I.val = n / 6 * 1152 + (i 0).val) (_ : J.val = (i 1).val),
    outsAt0 m c n hn i = (∑ r ∈ Finset.range (1408 * (n % 6) + 1408), term m c I J r : EReal) := by
  intro n
  induction n with
  | zero =>
    intro hn h5 i I J hI hJ
    rw [outsAt0_A m c ⟨0, hn⟩ rfl h5, out_A, step_apply, zero_apply, zero_add, point_eq m c ⟨0, hn⟩ i I J hI hJ,
      Finset.sum_range_add]
    simp
  | succ n ih =>
    intro hn h5 i I J hI hJ
    by_cases h0 : (n + 1) % 6 = 0
    · rw [outsAt0_A m c ⟨n + 1, hn⟩ h0 h5, out_A, step_apply, zero_apply, zero_add, point_eq m c ⟨n + 1, hn⟩ i I J hI hJ,
        Finset.sum_range_add]
      simp [h0]
    · rw [outsAt0_B m c ⟨n + 1, hn⟩ h0 h5, out_B, step_apply, point_eq m c ⟨n + 1, hn⟩ i I J hI hJ, Finset.sum_range_add]
      congr 1
      have e := ih (Nat.lt_of_succ_lt hn) (by omega) i I J (by rw [hI]; congr 2; omega) hJ
      rw [show 1408 * ((n + 1) % 6) = 1408 * (n % 6) + 1408 by omega]
      exact e

/-- After a last step, the block holds the whole sum times the two tensor scales' product. -/
theorem last_eq (c : Dev nD) (t : Fin cfg0.N) (h5 : t.val % 6 = 5) (i : S1152x2880.Idx) (I : Fin 11520) (J : Fin 2880)
    (hI : I.val = t.val / 6 * 1152 + (i 0).val) (hJ : J.val = (i 1).val) :
    outsAt0 m c t.val t.isLt i
      = ((∑ r ∈ Finset.range 8448, term m c I J r) * ((xsA m c o : EReal) * dsA m c o) : EReal) := by
  have h0 : ¬t.val % 6 = 0 := by omega
  rw [outsAt0_C m c t h0 h5, out_C, scaled_apply, show (iblk m c 0 t : Vec Ideal S1x1 .f32) o = _ from blk0 m c t, step_apply, point_eq m c t i I J hI hJ,
    held_eq m c (t.val - 1) _ (by omega) i I J (by rw [hI]; congr 2; omega) hJ,
    show 1408 * ((t.val - 1) % 6) + 1408 = 7040 by omega, show (8448 : ℕ) = 7040 + 1408 from rfl, Finset.sum_range_add, h5]

end Cert.KernelIdeal.Hand

end
-- ==== Proof.Final.lean ====
/-
  The result array of the matmul call, and its equality with the reference's.

  Block row `I / 1152` of the result is written back after the last contraction step on it, so the array ends holding, at
  row `I` and column `J`, the sum over all tokens times the two tensor scales (`final`). The reference's product
  contracts the same 8448 tokens at once and multiplies by the same scale (`eq_reference`).
-/
module

public import proofs.«01_k».proof.Proof.Fold
public import proofs.«01_k».proof.Proof.Gen.ReferenceIdeal.Read

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The weight gradient: row `I`, column `J`. -/
def result (c : Dev nD) : Vec Ideal S11520x2880 .f32 := fun i =>
  ((∑ r ∈ Finset.range 8448, term m c ⟨(i 0).val, (i 0).isLt⟩ ⟨(i 1).val, (i 1).isLt⟩ r) * ((xsA m c o : EReal) * dsA m c o) : EReal)

theorem xs3 : ∀ t : Fin grid0.N, win0_3.xsize (grid0.coords t) 0 = 1152 ∧ win0_3.xsize (grid0.coords t) 1 = 2880 := by decide +kernel

/-- What a write-back writes is the result read through its block. -/
theorem flushed_eq (c : Dev nD) (t : Fin cfg0.N) (hf : (cfg0.win 3).flush t = true) :
    (dats m 0 c).flushed 3 t = ((cfg0.win 3).blk t).view.read (Elt Ideal) (result m c) := by
  have h5 : t.val % 6 = 5 := (flush0_3 t).mp hf
  have hN : t.val < 60 := lt_of_lt_of_eq t.isLt (show cfg0.N = 60 from N_0)
  rw [Cert.KernelIdeal.Value.flushed3]
  funext j
  rw [View.read_apply]
  have h0 : (j 0).val < 1152 := lt_of_lt_of_eq (j 0).isLt (xs3 t).1
  have h1 : (j 1).val < 2880 := lt_of_lt_of_eq (j 1).isLt (xs3 t).2
  have key := last_eq m c t h5 (fun a => match a with | ⟨0, _⟩ => ⟨(j 0).val, h0⟩ | ⟨1, _⟩ => ⟨(j 1).val, h1⟩)
    ⟨t.val / 6 * 1152 + (j 0).val, by omega⟩ ⟨(j 1).val, h1⟩ rfl rfl
  have e0 : ∀ h, (⟨t.val / 6 * 1152 + (j 0).val, h⟩ : Fin 11520)
      = ⟨((((cfg0.win 3).blk t).view.emb j : S11520x2880.Idx) 0).val, (((cfg0.win 3).blk t).view.emb j 0).isLt⟩ := fun h => Fin.ext (by
    show t.val / 6 * 1152 + (j 0).val = win0_3.index t 0 * 1152 + 1 * (j 0).val
    rw [(at3 t).1]; omega)
  have e1 : (⟨(j 1).val, h1⟩ : Fin 2880)
      = ⟨((((cfg0.win 3).blk t).view.emb j : S11520x2880.Idx) 1).val, (((cfg0.win 3).blk t).view.emb j 1).isLt⟩ := Fin.ext (by
    show (j 1).val = win0_3.index t 1 * 2880 + 1 * (j 1).val
    rw [(at3 t).2]; omega)
  rw [e0, e1] at key
  refine Eq.trans ?_ key
  show outsAt0 m c t.val t.isLt _ = outsAt0 m c t.val t.isLt _
  congr 1
  exact idx_ext₂ (n₀ := 1152) (n₁ := 2880) rfl rfl

/-- The result array ends holding the weight gradient: the last step on each block row writes that row's block. -/
theorem final (c : Dev nD) : (dats m 0 c).arrAt 3 cfg0.N = result m c :=
  (dats m 0 c).arrAt_eq_of_cover 3 (result m c) (flushed_eq m c) fun i => by
    have h0 : (i 0 : Nat) < 11520 := (i 0).isLt
    have h1 : (i 1 : Nat) < 2880 := (i 1).isLt
    have hlt : (i 0 : Nat) / 1152 * 6 + 5 < grid0.N := by rw [N_0]; omega
    let t : Fin grid0.N := ⟨(i 0 : Nat) / 1152 * 6 + 5, hlt⟩
    have ht : t.val = (i 0 : Nat) / 1152 * 6 + 5 := rfl
    refine ⟨t, (flush0_3 t).mpr (by omega), ?_⟩
    show i ∈ ((View.whole main_v1).slice (win0_3.rect t)).set
    rw [View.set_slice_whole, Rect.mem_set_unit]
    intro a
    match a with
    | ⟨0, _⟩ =>
      show win0_3.index t 0 * 1152 ≤ (i 0 : Nat) ∧ (i 0 : Nat) < win0_3.index t 0 * 1152 + win0_3.xsize (grid0.coords t) 0
      rw [(at3 t).1, (xs3 t).1]; omega
    | ⟨1, _⟩ =>
      show win0_3.index t 1 * 2880 ≤ (i 1 : Nat) ∧ (i 1 : Nat) < win0_3.index t 1 * 2880 + win0_3.xsize (grid0.coords t) 1
      rw [(at3 t).2, (xs3 t).2]; omega

open Cert.ReferenceIdeal.Read in
/-- The weight gradient is what the reference computes from the same arguments. -/
theorem eq_reference (c : Dev nD) :
    result m c = val_main_v4 (F := Ideal) (dyA m c) (xtA m c) (xsA m c) (dsA m c) := by
  funext i
  rw [val_main_v4_apply, val_main_v1_apply, val_main_v3_apply, val_main_v2_apply]
  rw [Ideal.mulf_def, Ideal.mulf_def]
  refine congrArg (· * ((xsA m c o : EReal) * dsA m c o)) ?_
  rw [Finset.sum_range]
  refine Finset.sum_congr rfl fun k _ => ?_
  rw [val_main_v0_apply]
  unfold term
  rw [dif_pos k.isLt]
  rfl

end Cert.KernelIdeal.Hand

end
-- ==== Proof.FrameDy.lean ====
module

public import proofs.«01_k».proof.Defs
public import proofs.«01_k».proof.Proof.Gen.QuantDy.Frame
public import proofs.«01_k».proof.Proof.Gen.QuantDy.Loops
public import Idealize.ShloMosaic.Lib.Exec

@[expose] public section

set_option maxRecDepth 16384

noncomputable section

namespace Cert.QuantDy.Hand

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- A memref's buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Every operand held whole at some contents: what each trip is given and leaves. -/
def held (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole)  : sProp 𝕄 :=
  iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f))

set_option maxHeartbeats 4000000 in
theorem trip (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) (k0_t1 : Fin k0_t1_loop.trips) (acc : Unit) :
    held (F := F) c i arg2 harg2 arg3 harg3 arg4 harg4 arg5 harg5 arg6 harg6 arg7 harg7 arg8 harg8 arg9 harg9 arg10 harg10 arg11 harg11 arg12 harg12
      ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 k0_t1 acc)
        (fun _ => held (F := F) c i arg2 harg2 arg3 harg3 arg4 harg4 arg5 harg5 arg6 harg6 arg7 harg7 arg8 harg8 arg9 harg9 arg10 harg10 arg11 harg11 arg12 harg12) := by
  unfold held k0_t1_body
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩⟩
  sl_exec_parts
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

@[reducible, sl_loop] def loopInv (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 where
  inv := fun _ _ => held (F := F) c i arg2 harg2 arg3 harg3 arg4 harg4 arg5 harg5 arg6 harg6 arg7 harg7 arg8 harg8 arg9 harg9 arg10 harg10 arg11 harg11 arg12 harg12
  step := fun k acc => trip (F := F) c i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 k acc

set_option maxHeartbeats 4000000 in
theorem kernelRun (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (K : PUnit → sProp 𝕄) :
    iprop(held (F := F) c i arg2 harg2 arg3 harg3 arg4 harg4 arg5 harg5 arg6 harg6 arg7 harg7 arg8 harg8 arg9 harg9 arg10 harg10 arg11 harg11 arg12 harg12 ∗ (held (F := F) c i arg2 harg2 arg3 harg3 arg4 harg4 arg5 harg5 arg6 harg6 arg7 harg7 arg8 harg8 arg9 harg9 arg10 harg10 arg11 harg11 arg12 harg12 -∗ K ⟨⟩))
      ⊢ wp frame (wpE (defs₀ (F := F)) Variants.none c none) Set.univ (cc0_quant_dy (F := F) i arg2 harg2 arg3 harg3 arg4 harg4 arg5 harg5 arg6 harg6 arg7 harg7 arg8 harg8 arg9 harg9 arg10 harg10 arg11 harg11 arg12 harg12) K := by
  iintro ⟨HH, Hk⟩
  ihave HH' := (Entails.of_eq (held.eq_1 (F := F) c i arg2 harg2 arg3 harg3 arg4 harg4 arg5 harg5 arg6 harg6 arg7 harg7 arg8 harg8 arg9 harg9 arg10 harg10 arg11 harg11 arg12 harg12)) $$ HH
  icases HH' with ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩⟩
  by_cases h0 : Scalar.cmpi .ne (Scalar.extui (Scalar.andi (Scalar.cmpi .eq (BitVec.ofNat 32 (i 0).val) 0#32) (Scalar.cmpi .eq (BitVec.ofNat 32 (i 1).val) 0#32))) (0#32 : BitVec 32) = 1#1
  all_goals
    sl_exec_parts
    sl_step
    iapply Hk
    unfold held
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

variable (m : (ℓ : Loc nD τ sig) → Buf (Elt F) ℓ) (ρ : Dev nD → PrngReg)

/-- Nothing is said of what the body leaves in a staging buffer: no memory operation depends on it. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- What the body may use besides the windows: the two scratch arrays at some contents, and the register. -/
theorem phi_eq (c : Dev nD) (t) : (rdat m c).Φ t
    = iprop(((∃ f, pt c (Memref.whole cc0_scratch0) f) ∗ (∃ f, pt c (Memref.whole cc0_scratch1) f)) ∗ (∃ r, prngReg c r)) := by
  show Pipeline.ΦA spec0 c = _
  unfold Pipeline.ΦA
  rw [scopedRest0_eq]

/-- The body's triple, every window's staging buffer owned at some contents. -/
theorem kernelRun' (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, pt c arg11 f) ∗ (∃ f, pt c arg12 f) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, pt c arg11 f) ∗ (∃ f, pt c arg12 f)) -∗ K ⟨⟩))
      ⊢ wp frame (wpE (defs₀ (F := F)) Variants.none c none) Set.univ (cc0_quant_dy (F := F) i arg2 harg2 arg3 harg3 arg4 harg4 arg5 harg5 arg6 harg6 arg7 harg7 arg8 harg8 arg9 harg9 arg10 harg10 arg11 harg11 arg12 harg12) K := by
  have e (sp : Space) (S : Shape) (el : EltTy) (M : Memref sig .tc sp S el) (h : M.IsWhole) :
      (iprop(∃ d, owns (c : Thread nD τ) M fullShare d) : sProp 𝕄) = iprop(∃ f, pt c M f) := Memref.IsWhole.exists_owns_eq h fullShare
  have k := kernelRun (F := F) c i arg2 harg2 arg3 harg3 arg4 harg4 arg5 harg5 arg6 harg6 arg7 harg7 arg8 harg8 arg9 harg9 arg10 harg10 arg11 harg11 arg12 harg12 K
  unfold held at k
  rw [e _ _ _ arg2 harg2, e _ _ _ arg3 harg3, e _ _ _ arg4 harg4, e _ _ _ arg5 harg5, e _ _ _ arg6 harg6, e _ _ _ arg7 harg7, e _ _ _ arg8 harg8, e _ _ _ arg9 harg9, e _ _ _ arg10 harg10]
  refine .trans ?_ k
  iintro ⟨H0, H1, H2, H3, H4, H5, H6, H7, H8, HS0, HS1, Hk⟩
  isplitr [Hk]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iexact Hk

theorem body_obligation (c : Dev nD) : (rdat m c).BodyObligation (defs₀ (F := F)) Variants.none () Set.univ := by
  intro t Y hY
  rw [bigSep_W0, bigSep_W0, defs₀_row, phi_eq, phi_eq]
  unfold bodyAt0
  iintro ⟨⟨⟨HS0, HS1⟩, Hg⟩, HO, H0, H1, H2, H3, H4, H5, H6, H7, H8⟩
  iapply (kernelRun' (F := F) c (grid0.coords t) _ _ _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  iintro ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, HS0, HS1⟩
  isplitl [HS0 HS1 Hg]
  · isplitl [HS0 HS1]
    · isplitl [HS0]; · iexact HS0
      iexact HS1
    iexact Hg
  isplitl [HO]; · iexact HO
  isplitl [H0]
  · iexists g0; isplitr; · ipureintro; trivial
    iexact H0
  isplitl [H1]
  · iexists g1; isplitr; · ipureintro; trivial
    iexact H1
  isplitl [H2]
  · iexists g2; isplitr; · ipureintro; trivial
    iexact H2
  isplitl [H3]
  · iexists g3; isplitr; · ipureintro; trivial
    iexact H3
  isplitl [H4]
  · iexists g4; isplitr; · ipureintro; trivial
    iexact H4
  isplitl [H5]
  · iexists g5; isplitr; · ipureintro; trivial
    iexact H5
  isplitl [H6]
  · iexists g6; isplitr; · ipureintro; trivial
    iexact H6
  isplitl [H7]
  · iexists g7; isplitr; · ipureintro; trivial
    iexact H7
  iexists g8; isplitr; · ipureintro; trivial
  iexact H8

set_option backward.isDefEq.respectTransparency.types false in
theorem run_main :
    θ_run defs (onTc (τ := τ) (main (F := F))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

theorem frame_run : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => ⟨(h.1.arr_in c 2 rfl).trans (V_main_arg0 m c), (h.1.arr_in c 0 rfl).trans (V_main_arg1 m c), (h.1.arr_in c 3 rfl).trans (V_main_arg2 m c), ((h.1 c).2 main_arg3 (Pipeline.mem_restRefs_of main_arg3 (by decide) (by decide))).trans (V_main_arg3 m c)⟩, h.2⟩) (run_main m ρ)

end Cert.QuantDy.Hand

end
-- ==== Proof.FrameDyI.lean ====
module

public import proofs.«01_k».proof.Defs
public import proofs.«01_k».proof.Proof.Gen.QuantDyIdeal.Frame
public import proofs.«01_k».proof.Proof.Gen.QuantDyIdeal.Loops
public import Idealize.ShloMosaic.Lib.Exec

@[expose] public section

set_option maxRecDepth 16384

noncomputable section

namespace Cert.QuantDyIdeal.Hand

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A memref's buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Every operand held whole at some contents: what each trip is given and leaves. -/
def held (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole)  : sProp 𝕄 :=
  iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f))

set_option maxHeartbeats 4000000 in
theorem trip (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) (k0_t1 : Fin k0_t1_loop.trips) (acc : Unit) :
    held (F := F) c i arg2 harg2 arg3 harg3 arg4 harg4 arg5 harg5 arg6 harg6 arg7 harg7 arg8 harg8 arg9 harg9 arg10 harg10 arg11 harg11 arg12 harg12
      ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 k0_t1 acc)
        (fun _ => held (F := F) c i arg2 harg2 arg3 harg3 arg4 harg4 arg5 harg5 arg6 harg6 arg7 harg7 arg8 harg8 arg9 harg9 arg10 harg10 arg11 harg11 arg12 harg12) := by
  unfold held k0_t1_body
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩⟩
  sl_exec_parts
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

theorem defs₀_row (t : Fin cfg0.N) : defs₀ (F := F) .tc cfg0.body (cfg0.bodyArgs t (cfg0.slots t)) = bodyAt0 t := by
  unfold defs₀; rw [Defs.onTc_tc]

end Cert.QuantDyIdeal.Hand

end
-- ==== Proof.Butterfly.lean ====
/-
  The sixteen-point butterfly against the sixteen-point Hadamard sum, over the extended reals.

  The kernel forms the transform of a block by four rounds of sums and differences; the reference contracts with the
  matrix of signs. Over the reals the two are the same numbers. Over the extended reals an infinite input makes both
  infinite, of a sign that may differ with the order of the additions, so what agrees is the absolute value — and the
  block scale takes nothing else of the transform.
-/
module

public import Idealize.ShloMosaic.Lib.Pointwise
public import Mathlib.Tactic.FinCases
public import Mathlib.Tactic.Ring

@[expose] public section

noncomputable section

namespace Cert.Butterfly

open scoped BigOperators

/-- An absolute value, as the idealized program takes it. -/
def mag (x : EReal) : EReal := max x (-x)

/-- Infinite, of either sign. -/
def Inf (x : EReal) : Prop := x = ⊤ ∨ x = ⊥

theorem mag_inf {x : EReal} (h : Inf x) : mag x = ⊤ := by
  rcases h with h | h <;> subst h <;> simp [mag]

theorem mag_nonneg (x : EReal) : 0 ≤ mag x := by
  unfold mag
  rcases le_total 0 x with h | h
  · exact le_max_of_le_left h
  · exact le_max_of_le_right (EReal.neg_nonneg.mpr h)

theorem inf_neg {x : EReal} : Inf (-x) ↔ Inf x := by
  unfold Inf; rw [EReal.neg_eq_top_iff, EReal.neg_eq_bot_iff]; exact or_comm

theorem inf_add {x y : EReal} : Inf (x + y) ↔ Inf x ∨ Inf y := by
  unfold Inf
  induction x using EReal.rec <;> induction y using EReal.rec <;> simp [← EReal.coe_add]

theorem inf_sub {x y : EReal} : Inf (x - y) ↔ Inf x ∨ Inf y := by
  rw [sub_eq_add_neg, inf_add, inf_neg]

theorem not_inf {x : EReal} (h : ¬ Inf x) : ∃ r : ℝ, x = (r : EReal) := by
  unfold Inf at h
  induction x using EReal.rec with
  | bot => simp at h
  | top => simp at h
  | coe r => exact ⟨r, rfl⟩

section
variable {R : Type} [Add R] [Sub R]

/-- One round: partners `i` and `i + 2^h` become their sum and their difference. -/
def round (h : ℕ) (v : ℕ → R) : ℕ → R := fun i => if i.testBit h then v (i - 2 ^ h) - v i else v i + v (i + 2 ^ h)

/-- The four rounds. -/
def butterfly (v : ℕ → R) : ℕ → R := round 3 (round 2 (round 1 (round 0 v)))

/-! The sixteen outputs, written out. -/

theorem value_0 (v : ℕ → R) : butterfly v 0 = (((v 0 + v 1) + (v 2 + v 3)) + ((v 4 + v 5) + (v 6 + v 7))) + (((v 8 + v 9) + (v 10 + v 11)) + ((v 12 + v 13) + (v 14 + v 15))) := rfl
theorem value_1 (v : ℕ → R) : butterfly v 1 = (((v 0 - v 1) + (v 2 - v 3)) + ((v 4 - v 5) + (v 6 - v 7))) + (((v 8 - v 9) + (v 10 - v 11)) + ((v 12 - v 13) + (v 14 - v 15))) := rfl
theorem value_2 (v : ℕ → R) : butterfly v 2 = (((v 0 + v 1) - (v 2 + v 3)) + ((v 4 + v 5) - (v 6 + v 7))) + (((v 8 + v 9) - (v 10 + v 11)) + ((v 12 + v 13) - (v 14 + v 15))) := rfl
theorem value_3 (v : ℕ → R) : butterfly v 3 = (((v 0 - v 1) - (v 2 - v 3)) + ((v 4 - v 5) - (v 6 - v 7))) + (((v 8 - v 9) - (v 10 - v 11)) + ((v 12 - v 13) - (v 14 - v 15))) := rfl
theorem value_4 (v : ℕ → R) : butterfly v 4 = (((v 0 + v 1) + (v 2 + v 3)) - ((v 4 + v 5) + (v 6 + v 7))) + (((v 8 + v 9) + (v 10 + v 11)) - ((v 12 + v 13) + (v 14 + v 15))) := rfl
theorem value_5 (v : ℕ → R) : butterfly v 5 = (((v 0 - v 1) + (v 2 - v 3)) - ((v 4 - v 5) + (v 6 - v 7))) + (((v 8 - v 9) + (v 10 - v 11)) - ((v 12 - v 13) + (v 14 - v 15))) := rfl
theorem value_6 (v : ℕ → R) : butterfly v 6 = (((v 0 + v 1) - (v 2 + v 3)) - ((v 4 + v 5) - (v 6 + v 7))) + (((v 8 + v 9) - (v 10 + v 11)) - ((v 12 + v 13) - (v 14 + v 15))) := rfl
theorem value_7 (v : ℕ → R) : butterfly v 7 = (((v 0 - v 1) - (v 2 - v 3)) - ((v 4 - v 5) - (v 6 - v 7))) + (((v 8 - v 9) - (v 10 - v 11)) - ((v 12 - v 13) - (v 14 - v 15))) := rfl
theorem value_8 (v : ℕ → R) : butterfly v 8 = (((v 0 + v 1) + (v 2 + v 3)) + ((v 4 + v 5) + (v 6 + v 7))) - (((v 8 + v 9) + (v 10 + v 11)) + ((v 12 + v 13) + (v 14 + v 15))) := rfl
theorem value_9 (v : ℕ → R) : butterfly v 9 = (((v 0 - v 1) + (v 2 - v 3)) + ((v 4 - v 5) + (v 6 - v 7))) - (((v 8 - v 9) + (v 10 - v 11)) + ((v 12 - v 13) + (v 14 - v 15))) := rfl
theorem value_10 (v : ℕ → R) : butterfly v 10 = (((v 0 + v 1) - (v 2 + v 3)) + ((v 4 + v 5) - (v 6 + v 7))) - (((v 8 + v 9) - (v 10 + v 11)) + ((v 12 + v 13) - (v 14 + v 15))) := rfl
theorem value_11 (v : ℕ → R) : butterfly v 11 = (((v 0 - v 1) - (v 2 - v 3)) + ((v 4 - v 5) - (v 6 - v 7))) - (((v 8 - v 9) - (v 10 - v 11)) + ((v 12 - v 13) - (v 14 - v 15))) := rfl
theorem value_12 (v : ℕ → R) : butterfly v 12 = (((v 0 + v 1) + (v 2 + v 3)) - ((v 4 + v 5) + (v 6 + v 7))) - (((v 8 + v 9) + (v 10 + v 11)) - ((v 12 + v 13) + (v 14 + v 15))) := rfl
theorem value_13 (v : ℕ → R) : butterfly v 13 = (((v 0 - v 1) + (v 2 - v 3)) - ((v 4 - v 5) + (v 6 - v 7))) - (((v 8 - v 9) + (v 10 - v 11)) - ((v 12 - v 13) + (v 14 - v 15))) := rfl
theorem value_14 (v : ℕ → R) : butterfly v 14 = (((v 0 + v 1) - (v 2 + v 3)) - ((v 4 + v 5) - (v 6 + v 7))) - (((v 8 + v 9) - (v 10 + v 11)) - ((v 12 + v 13) - (v 14 + v 15))) := rfl
theorem value_15 (v : ℕ → R) : butterfly v 15 = (((v 0 - v 1) - (v 2 - v 3)) - ((v 4 - v 5) - (v 6 - v 7))) - (((v 8 - v 9) - (v 10 - v 11)) - ((v 12 - v 13) - (v 14 - v 15))) := rfl
end

/-- The sign the transform's matrix has at row `i`, column `k`. -/
def sgn (i k : ℕ) : ℝ := if ((i &&& k).testBit 0 ^^ (i &&& k).testBit 1 ^^ (i &&& k).testBit 2 ^^ (i &&& k).testBit 3) then -1 else 1

theorem round_coe (h : ℕ) (r : ℕ → ℝ) : round h (fun k => (r k : EReal)) = fun k => ((round h r k : ℝ) : EReal) := by
  funext k
  unfold round
  split
  · exact (EReal.coe_sub _ _).symm
  · exact (EReal.coe_add _ _).symm

theorem butterfly_coe (r : ℕ → ℝ) : butterfly (fun k => (r k : EReal)) = fun k => ((butterfly r k : ℝ) : EReal) := by
  unfold butterfly
  simp only [round_coe]

/-- A sum of sixteen terms, written out. -/
theorem sum16 {M : Type} [AddCommMonoid M] (f : Fin 16 → M) : ∑ k, f k = f 0 + (f 1 + (f 2 + (f 3 + (f 4 + (f 5 + (f 6 + (f 7 + (f 8 + (f 9 + (f 10 + (f 11 + (f 12 + (f 13 + (f 14 + (f 15 + 0))))))))))))))) := by
  simp only [Fin.sum_univ_succ, Finset.univ_eq_empty, Finset.sum_empty]
  rfl

/-! Over the reals each output is a row of signs times the inputs. -/

theorem row_0 (r : ℕ → ℝ) : butterfly r 0 = sgn 0 0 * r 0 + (sgn 0 1 * r 1 + (sgn 0 2 * r 2 + (sgn 0 3 * r 3 + (sgn 0 4 * r 4 + (sgn 0 5 * r 5 + (sgn 0 6 * r 6 + (sgn 0 7 * r 7 + (sgn 0 8 * r 8 + (sgn 0 9 * r 9 + (sgn 0 10 * r 10 + (sgn 0 11 * r 11 + (sgn 0 12 * r 12 + (sgn 0 13 * r 13 + (sgn 0 14 * r 14 + (sgn 0 15 * r 15 + 0))))))))))))))) := by
  rw [value_0, show sgn 0 0 = 1 from if_neg (by decide), show sgn 0 1 = 1 from if_neg (by decide), show sgn 0 2 = 1 from if_neg (by decide), show sgn 0 3 = 1 from if_neg (by decide), show sgn 0 4 = 1 from if_neg (by decide), show sgn 0 5 = 1 from if_neg (by decide), show sgn 0 6 = 1 from if_neg (by decide), show sgn 0 7 = 1 from if_neg (by decide), show sgn 0 8 = 1 from if_neg (by decide), show sgn 0 9 = 1 from if_neg (by decide), show sgn 0 10 = 1 from if_neg (by decide), show sgn 0 11 = 1 from if_neg (by decide), show sgn 0 12 = 1 from if_neg (by decide), show sgn 0 13 = 1 from if_neg (by decide), show sgn 0 14 = 1 from if_neg (by decide), show sgn 0 15 = 1 from if_neg (by decide)]
  ring
theorem row_1 (r : ℕ → ℝ) : butterfly r 1 = sgn 1 0 * r 0 + (sgn 1 1 * r 1 + (sgn 1 2 * r 2 + (sgn 1 3 * r 3 + (sgn 1 4 * r 4 + (sgn 1 5 * r 5 + (sgn 1 6 * r 6 + (sgn 1 7 * r 7 + (sgn 1 8 * r 8 + (sgn 1 9 * r 9 + (sgn 1 10 * r 10 + (sgn 1 11 * r 11 + (sgn 1 12 * r 12 + (sgn 1 13 * r 13 + (sgn 1 14 * r 14 + (sgn 1 15 * r 15 + 0))))))))))))))) := by
  rw [value_1, show sgn 1 0 = 1 from if_neg (by decide), show sgn 1 1 = -1 from if_pos (by decide), show sgn 1 2 = 1 from if_neg (by decide), show sgn 1 3 = -1 from if_pos (by decide), show sgn 1 4 = 1 from if_neg (by decide), show sgn 1 5 = -1 from if_pos (by decide), show sgn 1 6 = 1 from if_neg (by decide), show sgn 1 7 = -1 from if_pos (by decide), show sgn 1 8 = 1 from if_neg (by decide), show sgn 1 9 = -1 from if_pos (by decide), show sgn 1 10 = 1 from if_neg (by decide), show sgn 1 11 = -1 from if_pos (by decide), show sgn 1 12 = 1 from if_neg (by decide), show sgn 1 13 = -1 from if_pos (by decide), show sgn 1 14 = 1 from if_neg (by decide), show sgn 1 15 = -1 from if_pos (by decide)]
  ring
theorem row_2 (r : ℕ → ℝ) : butterfly r 2 = sgn 2 0 * r 0 + (sgn 2 1 * r 1 + (sgn 2 2 * r 2 + (sgn 2 3 * r 3 + (sgn 2 4 * r 4 + (sgn 2 5 * r 5 + (sgn 2 6 * r 6 + (sgn 2 7 * r 7 + (sgn 2 8 * r 8 + (sgn 2 9 * r 9 + (sgn 2 10 * r 10 + (sgn 2 11 * r 11 + (sgn 2 12 * r 12 + (sgn 2 13 * r 13 + (sgn 2 14 * r 14 + (sgn 2 15 * r 15 + 0))))))))))))))) := by
  rw [value_2, show sgn 2 0 = 1 from if_neg (by decide), show sgn 2 1 = 1 from if_neg (by decide), show sgn 2 2 = -1 from if_pos (by decide), show sgn 2 3 = -1 from if_pos (by decide), show sgn 2 4 = 1 from if_neg (by decide), show sgn 2 5 = 1 from if_neg (by decide), show sgn 2 6 = -1 from if_pos (by decide), show sgn 2 7 = -1 from if_pos (by decide), show sgn 2 8 = 1 from if_neg (by decide), show sgn 2 9 = 1 from if_neg (by decide), show sgn 2 10 = -1 from if_pos (by decide), show sgn 2 11 = -1 from if_pos (by decide), show sgn 2 12 = 1 from if_neg (by decide), show sgn 2 13 = 1 from if_neg (by decide), show sgn 2 14 = -1 from if_pos (by decide), show sgn 2 15 = -1 from if_pos (by decide)]
  ring
theorem row_3 (r : ℕ → ℝ) : butterfly r 3 = sgn 3 0 * r 0 + (sgn 3 1 * r 1 + (sgn 3 2 * r 2 + (sgn 3 3 * r 3 + (sgn 3 4 * r 4 + (sgn 3 5 * r 5 + (sgn 3 6 * r 6 + (sgn 3 7 * r 7 + (sgn 3 8 * r 8 + (sgn 3 9 * r 9 + (sgn 3 10 * r 10 + (sgn 3 11 * r 11 + (sgn 3 12 * r 12 + (sgn 3 13 * r 13 + (sgn 3 14 * r 14 + (sgn 3 15 * r 15 + 0))))))))))))))) := by
  rw [value_3, show sgn 3 0 = 1 from if_neg (by decide), show sgn 3 1 = -1 from if_pos (by decide), show sgn 3 2 = -1 from if_pos (by decide), show sgn 3 3 = 1 from if_neg (by decide), show sgn 3 4 = 1 from if_neg (by decide), show sgn 3 5 = -1 from if_pos (by decide), show sgn 3 6 = -1 from if_pos (by decide), show sgn 3 7 = 1 from if_neg (by decide), show sgn 3 8 = 1 from if_neg (by decide), show sgn 3 9 = -1 from if_pos (by decide), show sgn 3 10 = -1 from if_pos (by decide), show sgn 3 11 = 1 from if_neg (by decide), show sgn 3 12 = 1 from if_neg (by decide), show sgn 3 13 = -1 from if_pos (by decide), show sgn 3 14 = -1 from if_pos (by decide), show sgn 3 15 = 1 from if_neg (by decide)]
  ring
theorem row_4 (r : ℕ → ℝ) : butterfly r 4 = sgn 4 0 * r 0 + (sgn 4 1 * r 1 + (sgn 4 2 * r 2 + (sgn 4 3 * r 3 + (sgn 4 4 * r 4 + (sgn 4 5 * r 5 + (sgn 4 6 * r 6 + (sgn 4 7 * r 7 + (sgn 4 8 * r 8 + (sgn 4 9 * r 9 + (sgn 4 10 * r 10 + (sgn 4 11 * r 11 + (sgn 4 12 * r 12 + (sgn 4 13 * r 13 + (sgn 4 14 * r 14 + (sgn 4 15 * r 15 + 0))))))))))))))) := by
  rw [value_4, show sgn 4 0 = 1 from if_neg (by decide), show sgn 4 1 = 1 from if_neg (by decide), show sgn 4 2 = 1 from if_neg (by decide), show sgn 4 3 = 1 from if_neg (by decide), show sgn 4 4 = -1 from if_pos (by decide), show sgn 4 5 = -1 from if_pos (by decide), show sgn 4 6 = -1 from if_pos (by decide), show sgn 4 7 = -1 from if_pos (by decide), show sgn 4 8 = 1 from if_neg (by decide), show sgn 4 9 = 1 from if_neg (by decide), show sgn 4 10 = 1 from if_neg (by decide), show sgn 4 11 = 1 from if_neg (by decide), show sgn 4 12 = -1 from if_pos (by decide), show sgn 4 13 = -1 from if_pos (by decide), show sgn 4 14 = -1 from if_pos (by decide), show sgn 4 15 = -1 from if_pos (by decide)]
  ring
theorem row_5 (r : ℕ → ℝ) : butterfly r 5 = sgn 5 0 * r 0 + (sgn 5 1 * r 1 + (sgn 5 2 * r 2 + (sgn 5 3 * r 3 + (sgn 5 4 * r 4 + (sgn 5 5 * r 5 + (sgn 5 6 * r 6 + (sgn 5 7 * r 7 + (sgn 5 8 * r 8 + (sgn 5 9 * r 9 + (sgn 5 10 * r 10 + (sgn 5 11 * r 11 + (sgn 5 12 * r 12 + (sgn 5 13 * r 13 + (sgn 5 14 * r 14 + (sgn 5 15 * r 15 + 0))))))))))))))) := by
  rw [value_5, show sgn 5 0 = 1 from if_neg (by decide), show sgn 5 1 = -1 from if_pos (by decide), show sgn 5 2 = 1 from if_neg (by decide), show sgn 5 3 = -1 from if_pos (by decide), show sgn 5 4 = -1 from if_pos (by decide), show sgn 5 5 = 1 from if_neg (by decide), show sgn 5 6 = -1 from if_pos (by decide), show sgn 5 7 = 1 from if_neg (by decide), show sgn 5 8 = 1 from if_neg (by decide), show sgn 5 9 = -1 from if_pos (by decide), show sgn 5 10 = 1 from if_neg (by decide), show sgn 5 11 = -1 from if_pos (by decide), show sgn 5 12 = -1 from if_pos (by decide), show sgn 5 13 = 1 from if_neg (by decide), show sgn 5 14 = -1 from if_pos (by decide), show sgn 5 15 = 1 from if_neg (by decide)]
  ring
theorem row_6 (r : ℕ → ℝ) : butterfly r 6 = sgn 6 0 * r 0 + (sgn 6 1 * r 1 + (sgn 6 2 * r 2 + (sgn 6 3 * r 3 + (sgn 6 4 * r 4 + (sgn 6 5 * r 5 + (sgn 6 6 * r 6 + (sgn 6 7 * r 7 + (sgn 6 8 * r 8 + (sgn 6 9 * r 9 + (sgn 6 10 * r 10 + (sgn 6 11 * r 11 + (sgn 6 12 * r 12 + (sgn 6 13 * r 13 + (sgn 6 14 * r 14 + (sgn 6 15 * r 15 + 0))))))))))))))) := by
  rw [value_6, show sgn 6 0 = 1 from if_neg (by decide), show sgn 6 1 = 1 from if_neg (by decide), show sgn 6 2 = -1 from if_pos (by decide), show sgn 6 3 = -1 from if_pos (by decide), show sgn 6 4 = -1 from if_pos (by decide), show sgn 6 5 = -1 from if_pos (by decide), show sgn 6 6 = 1 from if_neg (by decide), show sgn 6 7 = 1 from if_neg (by decide), show sgn 6 8 = 1 from if_neg (by decide), show sgn 6 9 = 1 from if_neg (by decide), show sgn 6 10 = -1 from if_pos (by decide), show sgn 6 11 = -1 from if_pos (by decide), show sgn 6 12 = -1 from if_pos (by decide), show sgn 6 13 = -1 from if_pos (by decide), show sgn 6 14 = 1 from if_neg (by decide), show sgn 6 15 = 1 from if_neg (by decide)]
  ring
theorem row_7 (r : ℕ → ℝ) : butterfly r 7 = sgn 7 0 * r 0 + (sgn 7 1 * r 1 + (sgn 7 2 * r 2 + (sgn 7 3 * r 3 + (sgn 7 4 * r 4 + (sgn 7 5 * r 5 + (sgn 7 6 * r 6 + (sgn 7 7 * r 7 + (sgn 7 8 * r 8 + (sgn 7 9 * r 9 + (sgn 7 10 * r 10 + (sgn 7 11 * r 11 + (sgn 7 12 * r 12 + (sgn 7 13 * r 13 + (sgn 7 14 * r 14 + (sgn 7 15 * r 15 + 0))))))))))))))) := by
  rw [value_7, show sgn 7 0 = 1 from if_neg (by decide), show sgn 7 1 = -1 from if_pos (by decide), show sgn 7 2 = -1 from if_pos (by decide), show sgn 7 3 = 1 from if_neg (by decide), show sgn 7 4 = -1 from if_pos (by decide), show sgn 7 5 = 1 from if_neg (by decide), show sgn 7 6 = 1 from if_neg (by decide), show sgn 7 7 = -1 from if_pos (by decide), show sgn 7 8 = 1 from if_neg (by decide), show sgn 7 9 = -1 from if_pos (by decide), show sgn 7 10 = -1 from if_pos (by decide), show sgn 7 11 = 1 from if_neg (by decide), show sgn 7 12 = -1 from if_pos (by decide), show sgn 7 13 = 1 from if_neg (by decide), show sgn 7 14 = 1 from if_neg (by decide), show sgn 7 15 = -1 from if_pos (by decide)]
  ring
theorem row_8 (r : ℕ → ℝ) : butterfly r 8 = sgn 8 0 * r 0 + (sgn 8 1 * r 1 + (sgn 8 2 * r 2 + (sgn 8 3 * r 3 + (sgn 8 4 * r 4 + (sgn 8 5 * r 5 + (sgn 8 6 * r 6 + (sgn 8 7 * r 7 + (sgn 8 8 * r 8 + (sgn 8 9 * r 9 + (sgn 8 10 * r 10 + (sgn 8 11 * r 11 + (sgn 8 12 * r 12 + (sgn 8 13 * r 13 + (sgn 8 14 * r 14 + (sgn 8 15 * r 15 + 0))))))))))))))) := by
  rw [value_8, show sgn 8 0 = 1 from if_neg (by decide), show sgn 8 1 = 1 from if_neg (by decide), show sgn 8 2 = 1 from if_neg (by decide), show sgn 8 3 = 1 from if_neg (by decide), show sgn 8 4 = 1 from if_neg (by decide), show sgn 8 5 = 1 from if_neg (by decide), show sgn 8 6 = 1 from if_neg (by decide), show sgn 8 7 = 1 from if_neg (by decide), show sgn 8 8 = -1 from if_pos (by decide), show sgn 8 9 = -1 from if_pos (by decide), show sgn 8 10 = -1 from if_pos (by decide), show sgn 8 11 = -1 from if_pos (by decide), show sgn 8 12 = -1 from if_pos (by decide), show sgn 8 13 = -1 from if_pos (by decide), show sgn 8 14 = -1 from if_pos (by decide), show sgn 8 15 = -1 from if_pos (by decide)]
  ring
theorem row_9 (r : ℕ → ℝ) : butterfly r 9 = sgn 9 0 * r 0 + (sgn 9 1 * r 1 + (sgn 9 2 * r 2 + (sgn 9 3 * r 3 + (sgn 9 4 * r 4 + (sgn 9 5 * r 5 + (sgn 9 6 * r 6 + (sgn 9 7 * r 7 + (sgn 9 8 * r 8 + (sgn 9 9 * r 9 + (sgn 9 10 * r 10 + (sgn 9 11 * r 11 + (sgn 9 12 * r 12 + (sgn 9 13 * r 13 + (sgn 9 14 * r 14 + (sgn 9 15 * r 15 + 0))))))))))))))) := by
  rw [value_9, show sgn 9 0 = 1 from if_neg (by decide), show sgn 9 1 = -1 from if_pos (by decide), show sgn 9 2 = 1 from if_neg (by decide), show sgn 9 3 = -1 from if_pos (by decide), show sgn 9 4 = 1 from if_neg (by decide), show sgn 9 5 = -1 from if_pos (by decide), show sgn 9 6 = 1 from if_neg (by decide), show sgn 9 7 = -1 from if_pos (by decide), show sgn 9 8 = -1 from if_pos (by decide), show sgn 9 9 = 1 from if_neg (by decide), show sgn 9 10 = -1 from if_pos (by decide), show sgn 9 11 = 1 from if_neg (by decide), show sgn 9 12 = -1 from if_pos (by decide), show sgn 9 13 = 1 from if_neg (by decide), show sgn 9 14 = -1 from if_pos (by decide), show sgn 9 15 = 1 from if_neg (by decide)]
  ring
theorem row_10 (r : ℕ → ℝ) : butterfly r 10 = sgn 10 0 * r 0 + (sgn 10 1 * r 1 + (sgn 10 2 * r 2 + (sgn 10 3 * r 3 + (sgn 10 4 * r 4 + (sgn 10 5 * r 5 + (sgn 10 6 * r 6 + (sgn 10 7 * r 7 + (sgn 10 8 * r 8 + (sgn 10 9 * r 9 + (sgn 10 10 * r 10 + (sgn 10 11 * r 11 + (sgn 10 12 * r 12 + (sgn 10 13 * r 13 + (sgn 10 14 * r 14 + (sgn 10 15 * r 15 + 0))))))))))))))) := by
  rw [value_10, show sgn 10 0 = 1 from if_neg (by decide), show sgn 10 1 = 1 from if_neg (by decide), show sgn 10 2 = -1 from if_pos (by decide), show sgn 10 3 = -1 from if_pos (by decide), show sgn 10 4 = 1 from if_neg (by decide), show sgn 10 5 = 1 from if_neg (by decide), show sgn 10 6 = -1 from if_pos (by decide), show sgn 10 7 = -1 from if_pos (by decide), show sgn 10 8 = -1 from if_pos (by decide), show sgn 10 9 = -1 from if_pos (by decide), show sgn 10 10 = 1 from if_neg (by decide), show sgn 10 11 = 1 from if_neg (by decide), show sgn 10 12 = -1 from if_pos (by decide), show sgn 10 13 = -1 from if_pos (by decide), show sgn 10 14 = 1 from if_neg (by decide), show sgn 10 15 = 1 from if_neg (by decide)]
  ring
theorem row_11 (r : ℕ → ℝ) : butterfly r 11 = sgn 11 0 * r 0 + (sgn 11 1 * r 1 + (sgn 11 2 * r 2 + (sgn 11 3 * r 3 + (sgn 11 4 * r 4 + (sgn 11 5 * r 5 + (sgn 11 6 * r 6 + (sgn 11 7 * r 7 + (sgn 11 8 * r 8 + (sgn 11 9 * r 9 + (sgn 11 10 * r 10 + (sgn 11 11 * r 11 + (sgn 11 12 * r 12 + (sgn 11 13 * r 13 + (sgn 11 14 * r 14 + (sgn 11 15 * r 15 + 0))))))))))))))) := by
  rw [value_11, show sgn 11 0 = 1 from if_neg (by decide), show sgn 11 1 = -1 from if_pos (by decide), show sgn 11 2 = -1 from if_pos (by decide), show sgn 11 3 = 1 from if_neg (by decide), show sgn 11 4 = 1 from if_neg (by decide), show sgn 11 5 = -1 from if_pos (by decide), show sgn 11 6 = -1 from if_pos (by decide), show sgn 11 7 = 1 from if_neg (by decide), show sgn 11 8 = -1 from if_pos (by decide), show sgn 11 9 = 1 from if_neg (by decide), show sgn 11 10 = 1 from if_neg (by decide), show sgn 11 11 = -1 from if_pos (by decide), show sgn 11 12 = -1 from if_pos (by decide), show sgn 11 13 = 1 from if_neg (by decide), show sgn 11 14 = 1 from if_neg (by decide), show sgn 11 15 = -1 from if_pos (by decide)]
  ring
theorem row_12 (r : ℕ → ℝ) : butterfly r 12 = sgn 12 0 * r 0 + (sgn 12 1 * r 1 + (sgn 12 2 * r 2 + (sgn 12 3 * r 3 + (sgn 12 4 * r 4 + (sgn 12 5 * r 5 + (sgn 12 6 * r 6 + (sgn 12 7 * r 7 + (sgn 12 8 * r 8 + (sgn 12 9 * r 9 + (sgn 12 10 * r 10 + (sgn 12 11 * r 11 + (sgn 12 12 * r 12 + (sgn 12 13 * r 13 + (sgn 12 14 * r 14 + (sgn 12 15 * r 15 + 0))))))))))))))) := by
  rw [value_12, show sgn 12 0 = 1 from if_neg (by decide), show sgn 12 1 = 1 from if_neg (by decide), show sgn 12 2 = 1 from if_neg (by decide), show sgn 12 3 = 1 from if_neg (by decide), show sgn 12 4 = -1 from if_pos (by decide), show sgn 12 5 = -1 from if_pos (by decide), show sgn 12 6 = -1 from if_pos (by decide), show sgn 12 7 = -1 from if_pos (by decide), show sgn 12 8 = -1 from if_pos (by decide), show sgn 12 9 = -1 from if_pos (by decide), show sgn 12 10 = -1 from if_pos (by decide), show sgn 12 11 = -1 from if_pos (by decide), show sgn 12 12 = 1 from if_neg (by decide), show sgn 12 13 = 1 from if_neg (by decide), show sgn 12 14 = 1 from if_neg (by decide), show sgn 12 15 = 1 from if_neg (by decide)]
  ring
theorem row_13 (r : ℕ → ℝ) : butterfly r 13 = sgn 13 0 * r 0 + (sgn 13 1 * r 1 + (sgn 13 2 * r 2 + (sgn 13 3 * r 3 + (sgn 13 4 * r 4 + (sgn 13 5 * r 5 + (sgn 13 6 * r 6 + (sgn 13 7 * r 7 + (sgn 13 8 * r 8 + (sgn 13 9 * r 9 + (sgn 13 10 * r 10 + (sgn 13 11 * r 11 + (sgn 13 12 * r 12 + (sgn 13 13 * r 13 + (sgn 13 14 * r 14 + (sgn 13 15 * r 15 + 0))))))))))))))) := by
  rw [value_13, show sgn 13 0 = 1 from if_neg (by decide), show sgn 13 1 = -1 from if_pos (by decide), show sgn 13 2 = 1 from if_neg (by decide), show sgn 13 3 = -1 from if_pos (by decide), show sgn 13 4 = -1 from if_pos (by decide), show sgn 13 5 = 1 from if_neg (by decide), show sgn 13 6 = -1 from if_pos (by decide), show sgn 13 7 = 1 from if_neg (by decide), show sgn 13 8 = -1 from if_pos (by decide), show sgn 13 9 = 1 from if_neg (by decide), show sgn 13 10 = -1 from if_pos (by decide), show sgn 13 11 = 1 from if_neg (by decide), show sgn 13 12 = 1 from if_neg (by decide), show sgn 13 13 = -1 from if_pos (by decide), show sgn 13 14 = 1 from if_neg (by decide), show sgn 13 15 = -1 from if_pos (by decide)]
  ring
theorem row_14 (r : ℕ → ℝ) : butterfly r 14 = sgn 14 0 * r 0 + (sgn 14 1 * r 1 + (sgn 14 2 * r 2 + (sgn 14 3 * r 3 + (sgn 14 4 * r 4 + (sgn 14 5 * r 5 + (sgn 14 6 * r 6 + (sgn 14 7 * r 7 + (sgn 14 8 * r 8 + (sgn 14 9 * r 9 + (sgn 14 10 * r 10 + (sgn 14 11 * r 11 + (sgn 14 12 * r 12 + (sgn 14 13 * r 13 + (sgn 14 14 * r 14 + (sgn 14 15 * r 15 + 0))))))))))))))) := by
  rw [value_14, show sgn 14 0 = 1 from if_neg (by decide), show sgn 14 1 = 1 from if_neg (by decide), show sgn 14 2 = -1 from if_pos (by decide), show sgn 14 3 = -1 from if_pos (by decide), show sgn 14 4 = -1 from if_pos (by decide), show sgn 14 5 = -1 from if_pos (by decide), show sgn 14 6 = 1 from if_neg (by decide), show sgn 14 7 = 1 from if_neg (by decide), show sgn 14 8 = -1 from if_pos (by decide), show sgn 14 9 = -1 from if_pos (by decide), show sgn 14 10 = 1 from if_neg (by decide), show sgn 14 11 = 1 from if_neg (by decide), show sgn 14 12 = 1 from if_neg (by decide), show sgn 14 13 = 1 from if_neg (by decide), show sgn 14 14 = -1 from if_pos (by decide), show sgn 14 15 = -1 from if_pos (by decide)]
  ring
theorem row_15 (r : ℕ → ℝ) : butterfly r 15 = sgn 15 0 * r 0 + (sgn 15 1 * r 1 + (sgn 15 2 * r 2 + (sgn 15 3 * r 3 + (sgn 15 4 * r 4 + (sgn 15 5 * r 5 + (sgn 15 6 * r 6 + (sgn 15 7 * r 7 + (sgn 15 8 * r 8 + (sgn 15 9 * r 9 + (sgn 15 10 * r 10 + (sgn 15 11 * r 11 + (sgn 15 12 * r 12 + (sgn 15 13 * r 13 + (sgn 15 14 * r 14 + (sgn 15 15 * r 15 + 0))))))))))))))) := by
  rw [value_15, show sgn 15 0 = 1 from if_neg (by decide), show sgn 15 1 = -1 from if_pos (by decide), show sgn 15 2 = -1 from if_pos (by decide), show sgn 15 3 = 1 from if_neg (by decide), show sgn 15 4 = -1 from if_pos (by decide), show sgn 15 5 = 1 from if_neg (by decide), show sgn 15 6 = 1 from if_neg (by decide), show sgn 15 7 = -1 from if_pos (by decide), show sgn 15 8 = -1 from if_pos (by decide), show sgn 15 9 = 1 from if_neg (by decide), show sgn 15 10 = 1 from if_neg (by decide), show sgn 15 11 = -1 from if_pos (by decide), show sgn 15 12 = 1 from if_neg (by decide), show sgn 15 13 = -1 from if_pos (by decide), show sgn 15 14 = -1 from if_pos (by decide), show sgn 15 15 = 1 from if_neg (by decide)]
  ring

theorem butterfly_real (r : ℕ → ℝ) (i : Fin 16) : butterfly r i = ∑ k : Fin 16, sgn i k * r k := by
  rw [sum16]
  obtain ⟨i, hi⟩ := i
  match i, hi with
  | 0, _ => exact row_0 r
  | 1, _ => exact row_1 r
  | 2, _ => exact row_2 r
  | 3, _ => exact row_3 r
  | 4, _ => exact row_4 r
  | 5, _ => exact row_5 r
  | 6, _ => exact row_6 r
  | 7, _ => exact row_7 r
  | 8, _ => exact row_8 r
  | 9, _ => exact row_9 r
  | 10, _ => exact row_10 r
  | 11, _ => exact row_11 r
  | 12, _ => exact row_12 r
  | 13, _ => exact row_13 r
  | 14, _ => exact row_14 r
  | 15, _ => exact row_15 r
  | n + 16, hi => exact absurd hi (by omega)

/-! An infinite input makes every output infinite. -/

theorem inf_0 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 0) := by
  rw [value_0]
  simp only [inf_add, inf_sub]
  rcases h with h | h | h | h | h | h | h | h | h | h | h | h | h | h | h | h <;> simp only [h, true_or, or_true]
theorem inf_1 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 1) := by
  rw [value_1]
  simp only [inf_add, inf_sub]
  rcases h with h | h | h | h | h | h | h | h | h | h | h | h | h | h | h | h <;> simp only [h, true_or, or_true]
theorem inf_2 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 2) := by
  rw [value_2]
  simp only [inf_add, inf_sub]
  rcases h with h | h | h | h | h | h | h | h | h | h | h | h | h | h | h | h <;> simp only [h, true_or, or_true]
theorem inf_3 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 3) := by
  rw [value_3]
  simp only [inf_add, inf_sub]
  rcases h with h | h | h | h | h | h | h | h | h | h | h | h | h | h | h | h <;> simp only [h, true_or, or_true]
theorem inf_4 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 4) := by
  rw [value_4]
  simp only [inf_add, inf_sub]
  rcases h with h | h | h | h | h | h | h | h | h | h | h | h | h | h | h | h <;> simp only [h, true_or, or_true]
theorem inf_5 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 5) := by
  rw [value_5]
  simp only [inf_add, inf_sub]
  rcases h with h | h | h | h | h | h | h | h | h | h | h | h | h | h | h | h <;> simp only [h, true_or, or_true]
theorem inf_6 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 6) := by
  rw [value_6]
  simp only [inf_add, inf_sub]
  rcases h with h | h | h | h | h | h | h | h | h | h | h | h | h | h | h | h <;> simp only [h, true_or, or_true]
theorem inf_7 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 7) := by
  rw [value_7]
  simp only [inf_add, inf_sub]
  rcases h with h | h | h | h | h | h | h | h | h | h | h | h | h | h | h | h <;> simp only [h, true_or, or_true]
theorem inf_8 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 8) := by
  rw [value_8]
  simp only [inf_add, inf_sub]
  rcases h with h | h | h | h | h | h | h | h | h | h | h | h | h | h | h | h <;> simp only [h, true_or, or_true]
theorem inf_9 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 9) := by
  rw [value_9]
  simp only [inf_add, inf_sub]
  rcases h with h | h | h | h | h | h | h | h | h | h | h | h | h | h | h | h <;> simp only [h, true_or, or_true]
theorem inf_10 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 10) := by
  rw [value_10]
  simp only [inf_add, inf_sub]
  rcases h with h | h | h | h | h | h | h | h | h | h | h | h | h | h | h | h <;> simp only [h, true_or, or_true]
theorem inf_11 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 11) := by
  rw [value_11]
  simp only [inf_add, inf_sub]
  rcases h with h | h | h | h | h | h | h | h | h | h | h | h | h | h | h | h <;> simp only [h, true_or, or_true]
theorem inf_12 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 12) := by
  rw [value_12]
  simp only [inf_add, inf_sub]
  rcases h with h | h | h | h | h | h | h | h | h | h | h | h | h | h | h | h <;> simp only [h, true_or, or_true]
theorem inf_13 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 13) := by
  rw [value_13]
  simp only [inf_add, inf_sub]
  rcases h with h | h | h | h | h | h | h | h | h | h | h | h | h | h | h | h <;> simp only [h, true_or, or_true]
theorem inf_14 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 14) := by
  rw [value_14]
  simp only [inf_add, inf_sub]
  rcases h with h | h | h | h | h | h | h | h | h | h | h | h | h | h | h | h <;> simp only [h, true_or, or_true]
theorem inf_15 (u : ℕ → EReal) (h : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15)) : Inf (butterfly u 15) := by
  rw [value_15]
  simp only [inf_add, inf_sub]
  rcases h with h | h | h | h | h | h | h | h | h | h | h | h | h | h | h | h <;> simp only [h, true_or, or_true]

theorem butterfly_inf (u : ℕ → EReal) (i : Fin 16) (h : ∃ k : Fin 16, Inf (u k)) : Inf (butterfly u i) := by
  have h' : Inf (u 0) ∨ Inf (u 1) ∨ Inf (u 2) ∨ Inf (u 3) ∨ Inf (u 4) ∨ Inf (u 5) ∨ Inf (u 6) ∨ Inf (u 7) ∨ Inf (u 8) ∨ Inf (u 9) ∨ Inf (u 10) ∨ Inf (u 11) ∨ Inf (u 12) ∨ Inf (u 13) ∨ Inf (u 14) ∨ Inf (u 15) := by
    obtain ⟨k, hk⟩ := h
    obtain ⟨k, hlt⟩ := k
    match k, hlt with
    | 0, _ => exact .inl hk
    | 1, _ => exact .inr (.inl hk)
    | 2, _ => exact .inr (.inr (.inl hk))
    | 3, _ => exact .inr (.inr (.inr (.inl hk)))
    | 4, _ => exact .inr (.inr (.inr (.inr (.inl hk))))
    | 5, _ => exact .inr (.inr (.inr (.inr (.inr (.inl hk)))))
    | 6, _ => exact .inr (.inr (.inr (.inr (.inr (.inr (.inl hk))))))
    | 7, _ => exact .inr (.inr (.inr (.inr (.inr (.inr (.inr (.inl hk)))))))
    | 8, _ => exact .inr (.inr (.inr (.inr (.inr (.inr (.inr (.inr (.inl hk))))))))
    | 9, _ => exact .inr (.inr (.inr (.inr (.inr (.inr (.inr (.inr (.inr (.inl hk)))))))))
    | 10, _ => exact .inr (.inr (.inr (.inr (.inr (.inr (.inr (.inr (.inr (.inr (.inl hk))))))))))
    | 11, _ => exact .inr (.inr (.inr (.inr (.inr (.inr (.inr (.inr (.inr (.inr (.inr (.inl hk)))))))))))
    | 12, _ => exact .inr (.inr (.inr (.inr (.inr (.inr (.inr (.inr (.inr (.inr (.inr (.inr (.inl hk))))))))))))
    | 13, _ => exact .inr (.inr (.inr (.inr (.inr (.inr (.inr (.inr (.inr (.inr (.inr (.inr (.inr (.inl hk)))))))))))))
    | 14, _ => exact .inr (.inr (.inr (.inr (.inr (.inr (.inr (.inr (.inr (.inr (.inr (.inr (.inr (.inr (.inl hk))))))))))))))
    | 15, _ => exact .inr (.inr (.inr (.inr (.inr (.inr (.inr (.inr (.inr (.inr (.inr (.inr (.inr (.inr (.inr (hk)))))))))))))))
    | n + 16, hlt => exact absurd hlt (by omega)
  obtain ⟨i, hi⟩ := i
  match i, hi with
  | 0, _ => exact inf_0 u h'
  | 1, _ => exact inf_1 u h'
  | 2, _ => exact inf_2 u h'
  | 3, _ => exact inf_3 u h'
  | 4, _ => exact inf_4 u h'
  | 5, _ => exact inf_5 u h'
  | 6, _ => exact inf_6 u h'
  | 7, _ => exact inf_7 u h'
  | 8, _ => exact inf_8 u h'
  | 9, _ => exact inf_9 u h'
  | 10, _ => exact inf_10 u h'
  | 11, _ => exact inf_11 u h'
  | 12, _ => exact inf_12 u h'
  | 13, _ => exact inf_13 u h'
  | 14, _ => exact inf_14 u h'
  | 15, _ => exact inf_15 u h'
  | n + 16, hi => exact absurd hi (by omega)

theorem inf_sum (f : Fin 16 → EReal) (h : ∃ k, Inf (f k)) : Inf (∑ k, f k) := by
  obtain ⟨k, hk⟩ := h
  rw [← Finset.add_sum_erase _ _ (Finset.mem_univ k)]
  exact inf_add.mpr (.inl hk)

theorem sgn_cases (i k : ℕ) : sgn i k = 1 ∨ sgn i k = -1 := by
  unfold sgn; split
  · exact .inr rfl
  · exact .inl rfl

theorem inf_sgn (i k : ℕ) (x : EReal) : Inf ((sgn i k : EReal) * x) ↔ Inf x := by
  rcases sgn_cases i k with h | h <;> rw [h]
  · simp
  · rw [show ((-1 : ℝ) : EReal) = -1 by simp, neg_one_mul, inf_neg]

/-- The magnitudes of the two transforms agree, whatever the inputs. -/
theorem mag_butterfly (u : Fin 16 → EReal) (i : Fin 16) :
    mag (butterfly (fun k => u (Fin.ofNat 16 k)) i) = mag (∑ k : Fin 16, (sgn i k : EReal) * u k) := by
  by_cases h : ∃ k : Fin 16, Inf (u k)
  · obtain ⟨k, hk⟩ := h
    rw [mag_inf (butterfly_inf _ i ⟨k, by rwa [Fin.ofNat_val_eq_self]⟩), mag_inf (inf_sum _ ⟨k, (inf_sgn i k _).mpr hk⟩)]
  · have hr : ∀ k : Fin 16, ∃ r : ℝ, u k = (r : EReal) := fun k => not_inf fun hk => h ⟨k, hk⟩
    choose r hr using hr
    obtain rfl : u = fun k => (r k : EReal) := funext hr
    have e : (∑ k : Fin 16, (sgn i k : EReal) * (r k : EReal)) = ((∑ k : Fin 16, sgn i k * r k : ℝ) : EReal) := by
      rw [sum16, sum16]
      simp only [EReal.coe_add, EReal.coe_mul, EReal.coe_zero]
    refine Eq.trans ?_ (congrArg mag e.symm)
    refine congrArg mag ((congrFun (butterfly_coe (fun k => r (Fin.ofNat 16 k))) i).trans (congrArg _ ?_))
    rw [butterfly_real]
    simp only [Fin.ofNat_val_eq_self]

end Cert.Butterfly

end
-- ==== Proof.Words.lean ====
module

public import Idealize.ShloMosaic.Lib.Pointwise

@[expose] public section

namespace Cert.Words

open Idealize.ShloMosaic

variable {sig : RefSig} {κ : Kind} {Val : EltTy → Type} {sp : Space}

/-- The tokens of a block as the kernel loads them: a block is a pair of tokens per word, eight words apart from the next block, and
    the half `h` of word `o + 8 s` is token `2 (o + 8 s) + h`. -/
theorem read_half (v : View sig κ sp ⟨3, ![1, 1408, 128]⟩ .bf16) (hn : (⟨4, ![1, 704, 2, 128]⟩ : Shape).numel = (⟨3, ![1, 1408, 128]⟩ : Shape).numel)
    (f : v.ty.Contents Val) (off : Fin 4 → ℕ) (o : ℕ) (hoff : off = ![0, o, 0, 0]) (inb) (s : Fin 8) (h : Fin 2) (l : Fin 128)
    (t : Fin 1408) (ht : t.val = 2 * (o + 8 * s.val) + h.val) :
    View.readAt Val (v.reshape ⟨4, ![1, 704, 2, 128]⟩ hn) { off := off, size := ![1, 8, 2, 128], stride := ![1, 8, 1, 1], inb := inb } f (ix4 0 s h l)
      = v.read Val f (ix3 0 t l) := by
  subst hoff
  rw [View.readAt_apply]
  show v.read Val f (Shape.reshapeEquiv hn _) = _
  congr 1
  refine Shape.reshapeEquiv_eq_of_rowMajor hn ?_
  rw [Shape.rowMajor_val_three, Shape.rowMajor_val_four]
  simp only [LoadRect.idx_apply]
  simp
  omega

end Cert.Words

end
-- ==== Proof.Scale.lean ====
/-
  The scale of a block, as both programs take it: the clipped quotient of the largest magnitude of the transformed block by
  six times the tensor's scale. Everything here is about extended reals; no program is mentioned.
-/
module

public import proofs.«01_k».proof.Proof.Butterfly

@[expose] public section

noncomputable section

namespace Cert.Scale

open Idealize.ShloMosaic Cert.Butterfly
open scoped BigOperators

/-- The largest magnitude of the transformed block `u`: the transform is the sum of the block's sixteen numbers, each with its sign. -/
def peak (u : Fin 16 → EReal) : EReal :=
  Finset.fold max (Ideal.ofBits .f32 4286578688#32) (fun i : Fin 16 => mag (∑ k : Fin 16, (sgn i k : EReal) * u k)) Finset.univ

/-- The block's scale at the tensor's scale `t`, before it is rounded to eight bits. -/
def clipped (a t : EReal) : EReal :=
  min (Ideal.ofBits .f32 1138753536#32) (max (Ideal.ofBits .f32 0#32) (Ideal.div a (Ideal.ofBits .f32 1086324736#32 * t)))

/-- The tensor's scale: the largest of the last amaxes over 2688, or one if none is above zero. -/
def tensorScale (h : Fin 24 → EReal) : EReal :=
  if 0 < Finset.fold max (Ideal.ofBits .f32 4286578688#32) h Finset.univ then
    Ideal.div (Finset.fold max (Ideal.ofBits .f32 4286578688#32) h Finset.univ) (Ideal.ofBits .f32 1160249344#32)
  else Ideal.ofBits .f32 1065353216#32

/-- The scale of a block of sixteen tokens `u` taken with the signs `g`, the tensor's scale from the amaxes `h`. -/
def blockScale (h : Fin 24 → EReal) (g u : Fin 16 → EReal) : EReal :=
  clipped (peak fun n => u n * (g n * Ideal.ofBits .f32 1048576000#32)) (tensorScale h)

/-- The largest magnitude of a transformed block, by the butterfly and in the order the kernel takes it. -/
def treeMax (L : ℕ → EReal) : EReal :=
  max
    (max (max (max (mag (butterfly L 0)) (mag (butterfly L 1))) (max (mag (butterfly L 2)) (mag (butterfly L 3))))
      (max (max (mag (butterfly L 4)) (mag (butterfly L 5))) (max (mag (butterfly L 6)) (mag (butterfly L 7)))))
    (max (max (max (mag (butterfly L 8)) (mag (butterfly L 9))) (max (mag (butterfly L 10)) (mag (butterfly L 11))))
      (max (max (mag (butterfly L 12)) (mag (butterfly L 13))) (max (mag (butterfly L 14)) (mag (butterfly L 15)))))

theorem ofBits_neg_inf : Ideal.ofBits .f32 4286578688#32 = ⊥ := by simp [Ideal.ofBits, Ideal.ieee]

theorem treeMax_eq (L : ℕ → EReal) : treeMax L = peak (fun k => L k.val) := by
  have e : treeMax L = treeMax (fun k => (fun k : Fin 16 => L k.val) (Fin.ofNat 16 k)) := by
    unfold treeMax
    simp only [value_0, value_1, value_2, value_3, value_4, value_5, value_6, value_7, value_8, value_9, value_10, value_11, value_12,
      value_13, value_14, value_15]
    rfl
  rw [e]
  generalize (fun k : Fin 16 => L k.val) = u
  have m := mag_butterfly u
  refine eq_of_forall_ge_iff fun z => ?_
  unfold peak
  rw [Finset.fold_max_le, ofBits_neg_inf]
  unfold treeMax
  simp only [max_le_iff, bot_le, true_and, Finset.mem_univ, true_implies, ← m]
  constructor
  · rintro h ⟨i, hi⟩
    match i, hi with
    | 0, _ => exact h.1.1.1.1
    | 1, _ => exact h.1.1.1.2
    | 2, _ => exact h.1.1.2.1
    | 3, _ => exact h.1.1.2.2
    | 4, _ => exact h.1.2.1.1
    | 5, _ => exact h.1.2.1.2
    | 6, _ => exact h.1.2.2.1
    | 7, _ => exact h.1.2.2.2
    | 8, _ => exact h.2.1.1.1
    | 9, _ => exact h.2.1.1.2
    | 10, _ => exact h.2.1.2.1
    | 11, _ => exact h.2.1.2.2
    | 12, _ => exact h.2.2.1.1
    | 13, _ => exact h.2.2.1.2
    | 14, _ => exact h.2.2.2.1
    | 15, _ => exact h.2.2.2.2
    | n + 16, hi => exact absurd hi (by omega)
  · intro h
    exact ⟨⟨⟨⟨h 0, h 1⟩, ⟨h 2, h 3⟩⟩, ⟨⟨h 4, h 5⟩, ⟨h 6, h 7⟩⟩⟩, ⟨⟨⟨h 8, h 9⟩, ⟨h 10, h 11⟩⟩, ⟨⟨h 12, h 13⟩, ⟨h 14, h 15⟩⟩⟩⟩

/-- Adding a large number and taking it off again changes nothing: every number here is real. -/
theorem round_trip (a t : EReal) :
    (clipped a t + max (clipped a t) (Ideal.ofBits .f32 0x3C800000#32) * Ideal.ofBits .f32 0x49800000#32)
        - max (clipped a t) (Ideal.ofBits .f32 0x3C800000#32) * Ideal.ofBits .f32 0x49800000#32
      = clipped a t := by
  have hc : Ideal.ofBits .f32 0x3C800000#32 = ((1 / 64 : ℝ) : EReal) := by simp [Ideal.ofBits, Ideal.ieee, -EReal.coe_mul]; norm_num
  have hd : Ideal.ofBits .f32 0x49800000#32 = ((1048576 : ℝ) : EReal) := by simp [Ideal.ofBits, Ideal.ieee, -EReal.coe_mul]; norm_num
  have hs : ∃ r : ℝ, clipped a t = (r : EReal) := by
    unfold clipped
    have h448 : Ideal.ofBits .f32 1138753536#32 = ((448 : ℝ) : EReal) := by simp [Ideal.ofBits, Ideal.ieee, -EReal.coe_mul]; norm_num
    have h0 : Ideal.ofBits .f32 0#32 = ((0 : ℝ) : EReal) := by simp
    rw [h448, h0]
    generalize Ideal.div a _ = x
    induction x using EReal.rec with
    | bot => exact ⟨0, by simp⟩
    | top => exact ⟨448, by simp⟩
    | coe x => exact ⟨min 448 (max 0 x), by norm_cast⟩
  obtain ⟨s, hs⟩ := hs
  rw [hs, hc, hd, ← EReal.coe_strictMono.monotone.map_max (a := s), ← EReal.coe_mul, ← EReal.coe_add, ← EReal.coe_sub, add_sub_cancel_right]

/-- The reference's coefficient is the sign. -/
theorem coef (i k : Fin 16) :
    (FloatOps.sitofp (F := Ideal) .f32 (IntOp.subi 1#32 (IntOp.muli 2#32 (IntOp.andi (IntOp.ctpop (IntOp.andi (BitVec.ofNat 32 i.val) (BitVec.ofNat 32 k.val))) 1#32))) : EReal)
      = (sgn i k : EReal) := by
  have h : ∀ i k : Fin 16, (IntOp.subi 1#32 (IntOp.muli 2#32 (IntOp.andi (IntOp.ctpop (IntOp.andi (BitVec.ofNat 32 i.val) (BitVec.ofNat 32 k.val))) 1#32))).toInt
      = if (i.val &&& k.val).testBit 0 ^^ (i.val &&& k.val).testBit 1 ^^ (i.val &&& k.val).testBit 2 ^^ (i.val &&& k.val).testBit 3 then -1 else 1 := by decide +kernel
  show (((IntOp.subi 1#32 (IntOp.muli 2#32 (IntOp.andi (IntOp.ctpop (IntOp.andi (BitVec.ofNat 32 i.val) (BitVec.ofNat 32 k.val))) 1#32))).toInt : ℝ) : EReal) = _
  rw [h]
  unfold sgn
  split <;> simp

end Cert.Scale

end
-- ==== Proof.BlockDy.lean ====
/-
  One trip of the loop of `QuantDyIdeal` read off its own steps: the scales it stores are the clipped peaks of its blocks.
-/
module

public import proofs.«01_k».proof.Proof.FrameDyI
public import proofs.«01_k».proof.Proof.Butterfly
public import proofs.«01_k».proof.Proof.Words
public import proofs.«01_k».proof.Proof.Scale

@[expose] public section

set_option maxRecDepth 16384

noncomputable section

namespace Cert.QuantDyIdeal.Hand

open Cert.QuantDyIdeal Cert.QuantDyIdeal.Gen Cert.Butterfly Cert.Scale
open Idealize.ShloMosaic Idealize.ShloMosaic.TcCoe Idealize.ShloMosaic.Tactic

variable (c : Dev nD) (arg4 : Memref sig .tc .vmem S1x1408x128 .bf16) (harg4 : arg4.IsWhole) (v20 : FVec Ideal S8x128 .f32)
  (v22 v24 v26 v28 v30 v32 v33 v35 v37 v39 v41 v43 v45 v47 v49 v51 : EReal) (k : Fin k0_t1_loop.trips) (f4 : Buf (Elt Ideal) (View.loc (c : Thread nD τ) arg4.view))

/-- The sixteen signed tokens of a block as the body holds them, before the butterfly. -/
def leaf (j : S8x128.Idx) : ℕ → EReal
  | 0 => trip.sl.r_4 (F := Ideal) c arg4 harg4 v22 k f4 j
  | 1 => trip.sl.r_5 (F := Ideal) c arg4 harg4 v24 k f4 j
  | 2 => trip.sl.r_8 (F := Ideal) c arg4 harg4 v26 k f4 j
  | 3 => trip.sl.r_9 (F := Ideal) c arg4 harg4 v28 k f4 j
  | 4 => trip.sl.r_10 (F := Ideal) c arg4 harg4 v30 k f4 j
  | 5 => trip.sl.r_11 (F := Ideal) c arg4 harg4 v32 k f4 j
  | 6 => trip.sl.r_12 (F := Ideal) c arg4 harg4 v33 k f4 j
  | 7 => trip.sl.r_13 (F := Ideal) c arg4 harg4 v35 k f4 j
  | 8 => trip.sl.r_16 (F := Ideal) c arg4 harg4 v37 k f4 j
  | 9 => trip.sl.r_17 (F := Ideal) c arg4 harg4 v39 k f4 j
  | 10 => trip.sl.r_18 (F := Ideal) c arg4 harg4 v41 k f4 j
  | 11 => trip.sl.r_19 (F := Ideal) c arg4 harg4 v43 k f4 j
  | 12 => trip.sl.r_20 (F := Ideal) c arg4 harg4 v45 k f4 j
  | 13 => trip.sl.r_21 (F := Ideal) c arg4 harg4 v47 k f4 j
  | 14 => (trip.sl.r_22 (F := Ideal) c arg4 harg4 k f4 j : EReal) * k0_pay343 (F := Ideal) v49
  | 15 => (trip.sl.r_23 (F := Ideal) c arg4 harg4 k f4 j : EReal) * k0_pay344 (F := Ideal) v51
  | _ => 0

set_option maxHeartbeats 4000000 in
theorem peak_eq (j : S8x128.Idx) : trip.sl.r_54 (F := Ideal) c arg4 harg4 v22 v24 v26 v28 v30 v32 v33 v35 v37 v39 v41 v43 v45 v47 v49 v51 k f4 j = peak (fun n => leaf c arg4 harg4 v22 v24 v26 v28 v30 v32 v33 v35 v37 v39 v41 v43 v45 v47 v49 v51 k f4 j n.val) := by
  rw [← treeMax_eq]
  unfold treeMax
  simp only [value_0, value_1, value_2, value_3, value_4, value_5, value_6, value_7, value_8, value_9, value_10, value_11, value_12, value_13, value_14, value_15]
  rfl

theorem clip_eq (s : Fin 8) (l : Fin 128) : trip.sl.r_55 (F := Ideal) c arg4 harg4 v20 v22 v24 v26 v28 v30 v32 v33 v35 v37 v39 v41 v43 v45 v47 v49 v51 k f4 (ix2 s l)
    = clipped (trip.sl.r_54 (F := Ideal) c arg4 harg4 v22 v24 v26 v28 v30 v32 v33 v35 v37 v39 v41 v43 v45 v47 v49 v51 k f4 (ix2 s l)) (v20 (ix2 s l)) := by
  unfold trip.sl.r_55 clipped trip.sl.r_54
  pointwise [k0_pay95]

theorem numel_words : (⟨4, ![1, 704, 2, 128]⟩ : Shape).numel = (⟨3, ![1, 1408, 128]⟩ : Shape).numel := by decide

theorem trips (k : Fin k0_t1_loop.trips) : k.val < 11 := by
  have : k0_t1_loop.trips = 11 := by decide
  omega

/-- The token `n` of the block in row `s` of the trip `k`, in lane `l`. -/
def token (s : Fin 8) (l : Fin 128) (n : Fin 16) : EReal :=
  arg4.view.read (Elt Ideal) f4 (ix3 0 ⟨128 * k.val + 16 * s.val + n.val, by have := trips k; omega⟩ l)

/-- The factor the token `n` of every block is taken with. -/
def factor : Fin 16 → EReal := ![v22, v24, v26, v28, v30, v32, k0_pay335 (F := Ideal) v33, k0_pay336 (F := Ideal) v35, k0_pay337 (F := Ideal) v37, k0_pay338 (F := Ideal) v39, k0_pay339 (F := Ideal) v41, k0_pay340 (F := Ideal) v43, k0_pay341 (F := Ideal) v45, k0_pay342 (F := Ideal) v47, k0_pay343 (F := Ideal) v49, k0_pay344 (F := Ideal) v51]

theorem k0_off2_eq : ∀ k : Fin k0_t1_loop.trips, k0_off2 k = ![0, 64 * k.val + 0, 0, 0] := by decide +kernel

theorem inb_0 : ∀ a, k0_off2 k a + (![1, 8, 1, 1] : Fin 4 → ℕ) a * ((![1, 8, 2, 128] : Fin 4 → ℕ) a - 1) < (![1, 704, 2, 128] : Fin 4 → ℕ) a := by
  rw [k0_off2_eq k]; have := trips k; intro a; fin_cases a <;> simp <;> omega

theorem leaf_0 (s : Fin 8) (l : Fin 128) : leaf c arg4 harg4 v22 v24 v26 v28 v30 v32 v33 v35 v37 v39 v41 v43 v45 v47 v49 v51 k f4 (ix2 s l) 0 = token c arg4 k f4 s l 0 * factor v22 v24 v26 v28 v30 v32 v33 v35 v37 v39 v41 v43 v45 v47 v49 v51 0 := by
  have e := Words.read_half arg4.view numel_words f4 (k0_off2 k) (64 * k.val + 0) (k0_off2_eq k) (fun a => .inr (inb_0 k a)) s 0 l ⟨128 * k.val + 16 * s.val + 0, by have := trips k; omega⟩
    (by show 128 * k.val + 16 * s.val + 0 = 2 * (64 * k.val + 0 + 8 * s.val) + 0; omega)
  refine Eq.trans ?_ (congrArg (· * (v22 : EReal)) e)
  beta_reduce
  unfold leaf
  unfold trip.sl.r_4 trip.sl.v91_raw
  pointwise [k0_pay8]

theorem leaf_1 (s : Fin 8) (l : Fin 128) : leaf c arg4 harg4 v22 v24 v26 v28 v30 v32 v33 v35 v37 v39 v41 v43 v45 v47 v49 v51 k f4 (ix2 s l) 1 = token c arg4 k f4 s l 1 * factor v22 v24 v26 v28 v30 v32 v33 v35 v37 v39 v41 v43 v45 v47 v49 v51 1 := by
  have e := Words.read_half arg4.view numel_words f4 (k0_off2 k) (64 * k.val + 0) (k0_off2_eq k) (fun a => .inr (inb_0 k a)) s 1 l ⟨128 * k.val + 16 * s.val + 1, by have := trips k; omega⟩
    (by show 128 * k.val + 16 * s.val + 1 = 2 * (64 * k.val + 0 + 8 * s.val) + 1; omega)
  refine Eq.trans ?_ (congrArg (· * (v24 : EReal)) e)
  beta_reduce
  unfold leaf
  unfold trip.sl.r_5 trip.sl.v91_raw
  pointwise [k0_pay9]

theorem k0_off3_eq : ∀ k : Fin k0_t1_loop.trips, k0_off3 k = ![0, 64 * k.val + 1, 0, 0] := by decide +kernel

theorem inb_1 : ∀ a, k0_off3 k a + (![1, 8, 1, 1] : Fin 4 → ℕ) a * ((![1, 8, 2, 128] : Fin 4 → ℕ) a - 1) < (![1, 704, 2, 128] : Fin 4 → ℕ) a := by
  rw [k0_off3_eq k]; have := trips k; intro a; fin_cases a <;> simp <;> omega

theorem leaf_2 (s : Fin 8) (l : Fin 128) : leaf c arg4 harg4 v22 v24 v26 v28 v30 v32 v33 v35 v37 v39 v41 v43 v45 v47 v49 v51 k f4 (ix2 s l) 2 = token c arg4 k f4 s l 2 * factor v22 v24 v26 v28 v30 v32 v33 v35 v37 v39 v41 v43 v45 v47 v49 v51 2 := by
  have e := Words.read_half arg4.view numel_words f4 (k0_off3 k) (64 * k.val + 1) (k0_off3_eq k) (fun a => .inr (inb_1 k a)) s 0 l ⟨128 * k.val + 16 * s.val + 2, by have := trips k; omega⟩
    (by show 128 * k.val + 16 * s.val + 2 = 2 * (64 * k.val + 1 + 8 * s.val) + 0; omega)
  refine Eq.trans ?_ (congrArg (· * (v26 : EReal)) e)
  beta_reduce
  unfold leaf
  unfold trip.sl.r_8 trip.sl.r_6 trip.sl.v106_raw
  pointwise [k0_pay10, k0_pay12]

theorem leaf_3 (s : Fin 8) (l : Fin 128) : leaf c arg4 harg4 v22 v24 v26 v28 v30 v32 v33 v35 v37 v39 v41 v43 v45 v47 v49 v51 k f4 (ix2 s l) 3 = token c arg4 k f4 s l 3 * factor v22 v24 v26 v28 v30 v32 v33 v35 v37 v39 v41 v43 v45 v47 v49 v51 3 := by
  have e := Words.read_half arg4.view numel_words f4 (k0_off3 k) (64 * k.val + 1) (k0_off3_eq k) (fun a => .inr (inb_1 k a)) s 1 l ⟨128 * k.val + 16 * s.val + 3, by have := trips k; omega⟩
    (by show 128 * k.val + 16 * s.val + 3 = 2 * (64 * k.val + 1 + 8 * s.val) + 1; omega)
  refine Eq.trans ?_ (congrArg (· * (v28 : EReal)) e)
  beta_reduce
  unfold leaf
  unfold trip.sl.r_9 trip.sl.r_7 trip.sl.v106_raw
  pointwise [k0_pay11, k0_pay13]

theorem k0_off4_eq : ∀ k : Fin k0_t1_loop.trips, k0_off4 k = ![0, 64 * k.val + 2, 0, 0] := by decide +kernel

theorem inb_2 : ∀ a, k0_off4 k a + (![1, 8, 1, 1] : Fin 4 → ℕ) a * ((![1, 8, 2, 128] : Fin 4 → ℕ) a - 1) < (![1, 704, 2, 128] : Fin 4 → ℕ) a := by
  rw [k0_off4_eq k]; have := trips k; intro a; fin_cases a <;> simp <;> omega

theorem leaf_4 (s : Fin 8) (l : Fin 128) : leaf c arg4 harg4 v22 v24 v26 v28 v30 v32 v33 v35 v37 v39 v41 v43 v45 v47 v49 v51 k f4 (ix2 s l) 4 = token c arg4 k f4 s l 4 * factor v22 v24 v26 v28 v30 v32 v33 v35 v37 v39 v41 v43 v45 v47 v49 v51 4 := by
  have e := Words.read_half arg4.view numel_words f4 (k0_off4 k) (64 * k.val + 2) (k0_off4_eq k) (fun a => .inr (inb_2 k a)) s 0 l ⟨128 * k.val + 16 * s.val + 4, by have := trips k; omega⟩
    (by show 128 * k.val + 16 * s.val + 4 = 2 * (64 * k.val + 2 + 8 * s.val) + 0; omega)
  refine Eq.trans ?_ (congrArg (· * (v30 : EReal)) e)
  beta_reduce
  unfold leaf
  unfold trip.sl.r_10 trip.sl.v121_raw
  pointwise [k0_pay14]

theorem leaf_5 (s : Fin 8) (l : Fin 128) : leaf c arg4 harg4 v22 v24 v26 v28 v30 v32 v33 v35 v37 v39 v41 v43 v45 v47 v49 v51 k f4 (ix2 s l) 5 = token c arg4 k f4 s l 5 * factor v22 v24 v26 v28 v30 v32 v33 v35 v37 v39 v41 v43 v45 v47 v49 v51 5 := by
  have e := Words.read_half arg4.view numel_words f4 (k0_off4 k) (64 * k.val + 2) (k0_off4_eq k) (fun a => .inr (inb_2 k a)) s 1 l ⟨128 * k.val + 16 * s.val + 5, by have := trips k; omega⟩
    (by show 128 * k.val + 16 * s.val + 5 = 2 * (64 * k.val + 2 + 8 * s.val) + 1; omega)
  refine Eq.trans ?_ (congrArg (· * (v32 : EReal)) e)
  beta_reduce
  unfold leaf
  unfold trip.sl.r_11 trip.sl.v121_raw
  pointwise [k0_pay15]

theorem k0_off5_eq : ∀ k : Fin k0_t1_loop.trips, k0_off5 k = ![0, 64 * k.val + 3, 0, 0] := by decide +kernel

theorem inb_3 : ∀ a, k0_off5 k a + (![1, 8, 1, 1] : Fin 4 → ℕ) a * ((![1, 8, 2, 128] : Fin 4 → ℕ) a - 1) < (![1, 704, 2, 128] : Fin 4 → ℕ) a := by
  rw [k0_off5_eq k]; have := trips k; intro a; fin_cases a <;> simp <;> omega

theorem leaf_6 (s : Fin 8) (l : Fin 128) : leaf c arg4 harg4 v22 v24 v26 v28 v30 v32 v33 v35 v37 v39 v41 v43 v45 v47 v49 v51 k f4 (ix2 s l) 6 = token c arg4 k f4 s l 6 * factor v22 v24 v26 v28 v30 v32 v33 v35 v37 v39 v41 v43 v45 v47 v49 v51 6 := by
  have e := Words.read_half arg4.view numel_words f4 (k0_off5 k) (64 * k.val + 3) (k0_off5_eq k) (fun a => .inr (inb_3 k a)) s 0 l ⟨128 * k.val + 16 * s.val + 6, by have := trips k; omega⟩
    (by show 128 * k.val + 16 * s.val + 6 = 2 * (64 * k.val + 3 + 8 * s.val) + 0; omega)
  refine Eq.trans ?_ (congrArg (· * (k0_pay335 (F := Ideal) v33 : EReal)) e)
  beta_reduce
  unfold leaf
  unfold trip.sl.r_12 trip.sl.v136_raw
  pointwise [k0_pay16]

theorem leaf_7 (s : Fin 8) (l : Fin 128) : leaf c arg4 harg4 v22 v24 v26 v28 v30 v32 v33 v35 v37 v39 v41 v43 v45 v47 v49 v51 k f4 (ix2 s l) 7 = token c arg4 k f4 s l 7 * factor v22 v24 v26 v28 v30 v32 v33 v35 v37 v39 v41 v43 v45 v47 v49 v51 7 := by
  have e := Words.read_half arg4.view numel_words f4 (k0_off5 k) (64 * k.val + 3) (k0_off5_eq k) (fun a => .inr (inb_3 k a)) s 1 l ⟨128 * k.val + 16 * s.val + 7, by have := trips k; omega⟩
    (by show 128 * k.val + 16 * s.val + 7 = 2 * (64 * k.val + 3 + 8 * s.val) + 1; omega)
  refine Eq.trans ?_ (congrArg (· * (k0_pay336 (F := Ideal) v35 : EReal)) e)
  beta_reduce
  unfold leaf
  unfold trip.sl.r_13 trip.sl.v136_raw
  pointwise [k0_pay17]

theorem k0_off6_eq : ∀ k : Fin k0_t1_loop.trips, k0_off6 k = ![0, 64 * k.val + 4, 0, 0] := by decide +kernel

theorem inb_4 : ∀ a, k0_off6 k a + (![1, 8, 1, 1] : Fin 4 → ℕ) a * ((![1, 8, 2, 128] : Fin 4 → ℕ) a - 1) < (![1, 704, 2, 128] : Fin 4 → ℕ) a := by
  rw [k0_off6_eq k]; have := trips k; intro a; fin_cases a <;> simp <;> omega

theorem leaf_8 (s : Fin 8) (l : Fin 128) : leaf c arg4 harg4 v22 v24 v26 v28 v30 v32 v33 v35 v37 v39 v41 v43 v45 v47 v49 v51 k f4 (ix2 s l) 8 = token c arg4 k f4 s l 8 * factor v22 v24 v26 v28 v30 v32 v33 v35 v37 v39 v41 v43 v45 v47 v49 v51 8 := by
  have e := Words.read_half arg4.view numel_words f4 (k0_off6 k) (64 * k.val + 4) (k0_off6_eq k) (fun a => .inr (inb_4 k a)) s 0 l ⟨128 * k.val + 16 * s.val + 8, by have := trips k; omega⟩
    (by show 128 * k.val + 16 * s.val + 8 = 2 * (64 * k.val + 4 + 8 * s.val) + 0; omega)
  refine Eq.trans ?_ (congrArg (· * (k0_pay337 (F := Ideal) v37 : EReal)) e)
  beta_reduce
  unfold leaf
  unfold trip.sl.r_16 trip.sl.r_14 trip.sl.v151_raw
  pointwise [k0_pay18, k0_pay20]

theorem leaf_9 (s : Fin 8) (l : Fin 128) : leaf c arg4 harg4 v22 v24 v26 v28 v30 v32 v33 v35 v37 v39 v41 v43 v45 v47 v49 v51 k f4 (ix2 s l) 9 = token c arg4 k f4 s l 9 * factor v22 v24 v26 v28 v30 v32 v33 v35 v37 v39 v41 v43 v45 v47 v49 v51 9 := by
  have e := Words.read_half arg4.view numel_words f4 (k0_off6 k) (64 * k.val + 4) (k0_off6_eq k) (fun a => .inr (inb_4 k a)) s 1 l ⟨128 * k.val + 16 * s.val + 9, by have := trips k; omega⟩
    (by show 128 * k.val + 16 * s.val + 9 = 2 * (64 * k.val + 4 + 8 * s.val) + 1; omega)
  refine Eq.trans ?_ (congrArg (· * (k0_pay338 (F := Ideal) v39 : EReal)) e)
  beta_reduce
  unfold leaf
  unfold trip.sl.r_17 trip.sl.r_15 trip.sl.v151_raw
  pointwise [k0_pay19, k0_pay21]

theorem k0_off7_eq : ∀ k : Fin k0_t1_loop.trips, k0_off7 k = ![0, 64 * k.val + 5, 0, 0] := by decide +kernel

theorem inb_5 : ∀ a, k0_off7 k a + (![1, 8, 1, 1] : Fin 4 → ℕ) a * ((![1, 8, 2, 128] : Fin 4 → ℕ) a - 1) < (![1, 704, 2, 128] : Fin 4 → ℕ) a := by
  rw [k0_off7_eq k]; have := trips k; intro a; fin_cases a <;> simp <;> omega

theorem leaf_10 (s : Fin 8) (l : Fin 128) : leaf c arg4 harg4 v22 v24 v26 v28 v30 v32 v33 v35 v37 v39 v41 v43 v45 v47 v49 v51 k f4 (ix2 s l) 10 = token c arg4 k f4 s l 10 * factor v22 v24 v26 v28 v30 v32 v33 v35 v37 v39 v41 v43 v45 v47 v49 v51 10 := by
  have e := Words.read_half arg4.view numel_words f4 (k0_off7 k) (64 * k.val + 5) (k0_off7_eq k) (fun a => .inr (inb_5 k a)) s 0 l ⟨128 * k.val + 16 * s.val + 10, by have := trips k; omega⟩
    (by show 128 * k.val + 16 * s.val + 10 = 2 * (64 * k.val + 5 + 8 * s.val) + 0; omega)
  refine Eq.trans ?_ (congrArg (· * (k0_pay339 (F := Ideal) v41 : EReal)) e)
  beta_reduce
  unfold leaf
  unfold trip.sl.r_18 trip.sl.v166_raw
  pointwise [k0_pay22]

theorem leaf_11 (s : Fin 8) (l : Fin 128) : leaf c arg4 harg4 v22 v24 v26 v28 v30 v32 v33 v35 v37 v39 v41 v43 v45 v47 v49 v51 k f4 (ix2 s l) 11 = token c arg4 k f4 s l 11 * factor v22 v24 v26 v28 v30 v32 v33 v35 v37 v39 v41 v43 v45 v47 v49 v51 11 := by
  have e := Words.read_half arg4.view numel_words f4 (k0_off7 k) (64 * k.val + 5) (k0_off7_eq k) (fun a => .inr (inb_5 k a)) s 1 l ⟨128 * k.val + 16 * s.val + 11, by have := trips k; omega⟩
    (by show 128 * k.val + 16 * s.val + 11 = 2 * (64 * k.val + 5 + 8 * s.val) + 1; omega)
  refine Eq.trans ?_ (congrArg (· * (k0_pay340 (F := Ideal) v43 : EReal)) e)
  beta_reduce
  unfold leaf
  unfold trip.sl.r_19 trip.sl.v166_raw
  pointwise [k0_pay23]

theorem k0_off8_eq : ∀ k : Fin k0_t1_loop.trips, k0_off8 k = ![0, 64 * k.val + 6, 0, 0] := by decide +kernel

theorem inb_6 : ∀ a, k0_off8 k a + (![1, 8, 1, 1] : Fin 4 → ℕ) a * ((![1, 8, 2, 128] : Fin 4 → ℕ) a - 1) < (![1, 704, 2, 128] : Fin 4 → ℕ) a := by
  rw [k0_off8_eq k]; have := trips k; intro a; fin_cases a <;> simp <;> omega

theorem leaf_12 (s : Fin 8) (l : Fin 128) : leaf c arg4 harg4 v22 v24 v26 v28 v30 v32 v33 v35 v37 v39 v41 v43 v45 v47 v49 v51 k f4 (ix2 s l) 12 = token c arg4 k f4 s l 12 * factor v22 v24 v26 v28 v30 v32 v33 v35 v37 v39 v41 v43 v45 v47 v49 v51 12 := by
  have e := Words.read_half arg4.view numel_words f4 (k0_off8 k) (64 * k.val + 6) (k0_off8_eq k) (fun a => .inr (inb_6 k a)) s 0 l ⟨128 * k.val + 16 * s.val + 12, by have := trips k; omega⟩
    (by show 128 * k.val + 16 * s.val + 12 = 2 * (64 * k.val + 6 + 8 * s.val) + 0; omega)
  refine Eq.trans ?_ (congrArg (· * (k0_pay341 (F := Ideal) v45 : EReal)) e)
  beta_reduce
  unfold leaf
  unfold trip.sl.r_20 trip.sl.v181_raw
  pointwise [k0_pay24]

theorem leaf_13 (s : Fin 8) (l : Fin 128) : leaf c arg4 harg4 v22 v24 v26 v28 v30 v32 v33 v35 v37 v39 v41 v43 v45 v47 v49 v51 k f4 (ix2 s l) 13 = token c arg4 k f4 s l 13 * factor v22 v24 v26 v28 v30 v32 v33 v35 v37 v39 v41 v43 v45 v47 v49 v51 13 := by
  have e := Words.read_half arg4.view numel_words f4 (k0_off8 k) (64 * k.val + 6) (k0_off8_eq k) (fun a => .inr (inb_6 k a)) s 1 l ⟨128 * k.val + 16 * s.val + 13, by have := trips k; omega⟩
    (by show 128 * k.val + 16 * s.val + 13 = 2 * (64 * k.val + 6 + 8 * s.val) + 1; omega)
  refine Eq.trans ?_ (congrArg (· * (k0_pay342 (F := Ideal) v47 : EReal)) e)
  beta_reduce
  unfold leaf
  unfold trip.sl.r_21 trip.sl.v181_raw
  pointwise [k0_pay25]

theorem k0_off9_eq : ∀ k : Fin k0_t1_loop.trips, k0_off9 k = ![0, 64 * k.val + 7, 0, 0] := by decide +kernel

theorem inb_7 : ∀ a, k0_off9 k a + (![1, 8, 1, 1] : Fin 4 → ℕ) a * ((![1, 8, 2, 128] : Fin 4 → ℕ) a - 1) < (![1, 704, 2, 128] : Fin 4 → ℕ) a := by
  rw [k0_off9_eq k]; have := trips k; intro a; fin_cases a <;> simp <;> omega

theorem leaf_14 (s : Fin 8) (l : Fin 128) : leaf c arg4 harg4 v22 v24 v26 v28 v30 v32 v33 v35 v37 v39 v41 v43 v45 v47 v49 v51 k f4 (ix2 s l) 14 = token c arg4 k f4 s l 14 * factor v22 v24 v26 v28 v30 v32 v33 v35 v37 v39 v41 v43 v45 v47 v49 v51 14 := by
  have e := Words.read_half arg4.view numel_words f4 (k0_off9 k) (64 * k.val + 7) (k0_off9_eq k) (fun a => .inr (inb_7 k a)) s 0 l ⟨128 * k.val + 16 * s.val + 14, by have := trips k; omega⟩
    (by show 128 * k.val + 16 * s.val + 14 = 2 * (64 * k.val + 7 + 8 * s.val) + 0; omega)
  refine Eq.trans ?_ (congrArg (· * (k0_pay343 (F := Ideal) v49 : EReal)) e)
  beta_reduce
  unfold leaf
  unfold trip.sl.r_22 trip.sl.v196_raw
  pointwise [k0_pay26]

theorem leaf_15 (s : Fin 8) (l : Fin 128) : leaf c arg4 harg4 v22 v24 v26 v28 v30 v32 v33 v35 v37 v39 v41 v43 v45 v47 v49 v51 k f4 (ix2 s l) 15 = token c arg4 k f4 s l 15 * factor v22 v24 v26 v28 v30 v32 v33 v35 v37 v39 v41 v43 v45 v47 v49 v51 15 := by
  have e := Words.read_half arg4.view numel_words f4 (k0_off9 k) (64 * k.val + 7) (k0_off9_eq k) (fun a => .inr (inb_7 k a)) s 1 l ⟨128 * k.val + 16 * s.val + 15, by have := trips k; omega⟩
    (by show 128 * k.val + 16 * s.val + 15 = 2 * (64 * k.val + 7 + 8 * s.val) + 1; omega)
  refine Eq.trans ?_ (congrArg (· * (k0_pay344 (F := Ideal) v51 : EReal)) e)
  beta_reduce
  unfold leaf
  unfold trip.sl.r_23 trip.sl.v196_raw
  pointwise [k0_pay27]

theorem leaf_eq (s : Fin 8) (l : Fin 128) (n : Fin 16) : leaf c arg4 harg4 v22 v24 v26 v28 v30 v32 v33 v35 v37 v39 v41 v43 v45 v47 v49 v51 k f4 (ix2 s l) n.val = token c arg4 k f4 s l n * factor v22 v24 v26 v28 v30 v32 v33 v35 v37 v39 v41 v43 v45 v47 v49 v51 n := by
  obtain ⟨i, hi⟩ := n
  match i, hi with
  | 0, _ => exact leaf_0 c arg4 harg4 v22 v24 v26 v28 v30 v32 v33 v35 v37 v39 v41 v43 v45 v47 v49 v51 k f4 s l
  | 1, _ => exact leaf_1 c arg4 harg4 v22 v24 v26 v28 v30 v32 v33 v35 v37 v39 v41 v43 v45 v47 v49 v51 k f4 s l
  | 2, _ => exact leaf_2 c arg4 harg4 v22 v24 v26 v28 v30 v32 v33 v35 v37 v39 v41 v43 v45 v47 v49 v51 k f4 s l
  | 3, _ => exact leaf_3 c arg4 harg4 v22 v24 v26 v28 v30 v32 v33 v35 v37 v39 v41 v43 v45 v47 v49 v51 k f4 s l
  | 4, _ => exact leaf_4 c arg4 harg4 v22 v24 v26 v28 v30 v32 v33 v35 v37 v39 v41 v43 v45 v47 v49 v51 k f4 s l
  | 5, _ => exact leaf_5 c arg4 harg4 v22 v24 v26 v28 v30 v32 v33 v35 v37 v39 v41 v43 v45 v47 v49 v51 k f4 s l
  | 6, _ => exact leaf_6 c arg4 harg4 v22 v24 v26 v28 v30 v32 v33 v35 v37 v39 v41 v43 v45 v47 v49 v51 k f4 s l
  | 7, _ => exact leaf_7 c arg4 harg4 v22 v24 v26 v28 v30 v32 v33 v35 v37 v39 v41 v43 v45 v47 v49 v51 k f4 s l
  | 8, _ => exact leaf_8 c arg4 harg4 v22 v24 v26 v28 v30 v32 v33 v35 v37 v39 v41 v43 v45 v47 v49 v51 k f4 s l
  | 9, _ => exact leaf_9 c arg4 harg4 v22 v24 v26 v28 v30 v32 v33 v35 v37 v39 v41 v43 v45 v47 v49 v51 k f4 s l
  | 10, _ => exact leaf_10 c arg4 harg4 v22 v24 v26 v28 v30 v32 v33 v35 v37 v39 v41 v43 v45 v47 v49 v51 k f4 s l
  | 11, _ => exact leaf_11 c arg4 harg4 v22 v24 v26 v28 v30 v32 v33 v35 v37 v39 v41 v43 v45 v47 v49 v51 k f4 s l
  | 12, _ => exact leaf_12 c arg4 harg4 v22 v24 v26 v28 v30 v32 v33 v35 v37 v39 v41 v43 v45 v47 v49 v51 k f4 s l
  | 13, _ => exact leaf_13 c arg4 harg4 v22 v24 v26 v28 v30 v32 v33 v35 v37 v39 v41 v43 v45 v47 v49 v51 k f4 s l
  | 14, _ => exact leaf_14 c arg4 harg4 v22 v24 v26 v28 v30 v32 v33 v35 v37 v39 v41 v43 v45 v47 v49 v51 k f4 s l
  | 15, _ => exact leaf_15 c arg4 harg4 v22 v24 v26 v28 v30 v32 v33 v35 v37 v39 v41 v43 v45 v47 v49 v51 k f4 s l
  | i + 16, hi => exact absurd hi (by omega)

/-- What a trip stores of the scales: for each block its clipped peak, the steps that round it being the identity on real numbers. -/
theorem stored_eq (s : Fin 8) (l : Fin 128) :
    k0_pay314 (trip.sl.r_57 (F := Ideal) c arg4 harg4 v20 v22 v24 v26 v28 v30 v32 v33 v35 v37 v39 v41 v43 v45 v47 v49 v51 k f4) (ix2 s l)
      = clipped (peak (fun n => token c arg4 k f4 s l n * factor v22 v24 v26 v28 v30 v32 v33 v35 v37 v39 v41 v43 v45 v47 v49 v51 n)) (v20 (ix2 s l)) := by
  have e := clip_eq c arg4 harg4 v20 v22 v24 v26 v28 v30 v32 v33 v35 v37 v39 v41 v43 v45 v47 v49 v51 k f4 s l
  rw [peak_eq] at e
  rw [show (fun n : Fin 16 => leaf c arg4 harg4 v22 v24 v26 v28 v30 v32 v33 v35 v37 v39 v41 v43 v45 v47 v49 v51 k f4 (ix2 s l) n.val) = (fun n => token c arg4 k f4 s l n * factor v22 v24 v26 v28 v30 v32 v33 v35 v37 v39 v41 v43 v45 v47 v49 v51 n) from
    funext fun n => leaf_eq c arg4 harg4 v22 v24 v26 v28 v30 v32 v33 v35 v37 v39 v41 v43 v45 v47 v49 v51 k f4 s l n] at e
  rw [← round_trip, ← e]
  unfold trip.sl.r_57 trip.sl.r_56
  pointwise [k0_pay314, k0_pay98, k0_pay97, k0_pay96]
  rfl

end Cert.QuantDyIdeal.Hand

end
-- ==== Proof.ValueDy.lean ====
module

public import proofs.«01_k».proof.Proof.BlockDy
public import Idealize.ShloMosaic.Lib.WritesUnit
public import Idealize.ShloMosaic.Lib.VecWindow
public import Idealize.ShloMosaic.Lib.Pointwise

@[expose] public section

set_option maxRecDepth 16384

noncomputable section

namespace Cert.QuantDyIdeal.Hand

open Cert.QuantDyIdeal Cert.QuantDyIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The scale of the block `r` of a tile in lane `l`: the tile at `f4`, the factors and the tensor's scale as the body holds them. -/
def rowScale (c : Dev nD) (arg4 : Memref sig .tc .vmem S1x1408x128 .bf16) (v20 : FVec Ideal S8x128 .f32) (v22 v24 v26 v28 v30 v32 v33 v35 v37 v39 v41 v43 v45 v47 v49 v51 : EReal)
    (f4 : Buf (Elt Ideal) (View.loc (c : Thread nD τ) arg4.view)) (r : Fin 88) (l : Fin 128) : EReal :=
  clipped (peak fun n => (arg4.view.read (Elt Ideal) f4 (ix3 0 ⟨16 * r.val + n.val, by omega⟩ l) : EReal) * factor v22 v24 v26 v28 v30 v32 v33 v35 v37 v39 v41 v43 v45 v47 v49 v51 n) (v20 (ix2 ⟨r.val % 8, by omega⟩ l))

/-- After `k` trips the scratch of the scales holds the scales of the first `8 k` blocks. -/
def Rows (c : Dev nD) (arg4 : Memref sig .tc .vmem S1x1408x128 .bf16) (arg11 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : ℕ) (f : Buf (Elt Ideal) (View.loc (c : Thread nD τ) arg11.view)) : Prop :=
  ∀ (r : Fin 88) (l : Fin 128), r.val < 8 * k → arg11.view.read (Elt Ideal) f (ix2 r l) = rowScale c arg4 v20 v22 v24 v26 v28 v30 v32 v33 v35 v37 v39 v41 v43 v45 v47 v49 v51 f4 r l

theorem k0_off10_eq : ∀ k : Fin k0_t1_loop.trips, k0_off10 k = ![8 * k.val, 0] := by decide +kernel

/-- A trip's store adds its eight rows to the scales found so far. -/
theorem rows_step (c : Dev nD) (arg4 : Memref sig .tc .vmem S1x1408x128 .bf16) (arg11 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : Fin k0_t1_loop.trips) (f : Buf (Elt Ideal) (View.loc (c : Thread nD τ) arg11.view))
    (inb) (p : FVec Ideal S8x128 .f32) (hp : ∀ s l, p (ix2 s l) = clipped (peak (fun n => token c arg4 k f4 s l n * factor v22 v24 v26 v28 v30 v32 v33 v35 v37 v39 v41 v43 v45 v47 v49 v51 n)) (v20 (ix2 s l)))
    (h : Rows c arg4 arg11 v20 v22 v24 v26 v28 v30 v32 v33 v35 v37 v39 v41 v43 v45 v47 v49 v51 f4 k.val f) :
    Rows c arg4 arg11 v20 v22 v24 v26 v28 v30 v32 v33 v35 v37 v39 v41 v43 v45 v47 v49 v51 f4 (k.val + 1) (arg11.view.writes (Elt Ideal) f [⟨Rect.unit (s := S88x128) (k0_off10 k) S8x128.size inb, p⟩]) := by
  intro r l hr
  by_cases hk : r.val < 8 * k.val
  · exact (View.read_writes_cons_rows_of_not_mem (d := ![88, 128]) (o := 8 * k.val) (W := 8) arg11.view f inb p [] (ix2 r l) (k0_off10_eq k) rfl (.inl hk)).trans
      (h r l hk)
  · refine (View.read_writes_cons_rows_of_mem (d := ![88, 128]) (o := 8 * k.val) arg11.view f inb p [] (ix2 r l) (ix2 ⟨r.val - 8 * k.val, by omega⟩ l) (k0_off10_eq k)
      (by show r.val = 8 * k.val + (r.val - 8 * k.val); omega) rfl).trans ?_
    refine (hp _ _).trans ?_
    unfold rowScale token
    have e : ∀ n : Fin 16, 128 * k.val + 16 * (r.val - 8 * k.val) + n.val = 16 * r.val + n.val := fun n => by omega
    have e8 : (⟨r.val - 8 * k.val, by omega⟩ : Fin 8) = ⟨r.val % 8, by omega⟩ := Fin.ext (by show r.val - 8 * k.val = r.val % 8; omega)
    simp only [e]
    exact congrArg (fun i : Fin 8 => clipped _ (v20 (ix2 i l))) e8

/-- `Rows` at a count of trips; nothing is said before the first trip. -/
def RowsAt (c : Dev nD) (arg4 : Memref sig .tc .vmem S1x1408x128 .bf16) (arg11 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : ℕ) (f : Buf (Elt Ideal) (View.loc (c : Thread nD τ) arg11.view)) : Prop :=
  match k with
  | 0 => True
  | k + 1 => Rows c arg4 arg11 v20 v22 v24 v26 v28 v30 v32 v33 v35 v37 v39 v41 v43 v45 v47 v49 v51 f4 (k + 1) f

theorem RowsAt.rows {c : Dev nD} {arg4 : Memref sig .tc .vmem S1x1408x128 .bf16} {arg11 : Memref sig .tc .vmem S88x128 .f32} {v20 : FVec Ideal S8x128 .f32} {v22 v24 v26 v28 v30 v32 v33 v35 v37 v39 v41 v43 v45 v47 v49 v51 : EReal}
    {f4 : Buf (Elt Ideal) (View.loc (c : Thread nD τ) arg4.view)} : ∀ {k : ℕ} {f : Buf (Elt Ideal) (View.loc (c : Thread nD τ) arg11.view)},
    RowsAt c arg4 arg11 v20 v22 v24 v26 v28 v30 v32 v33 v35 v37 v39 v41 v43 v45 v47 v49 v51 f4 k f = True → Rows c arg4 arg11 v20 v22 v24 v26 v28 v30 v32 v33 v35 v37 v39 v41 v43 v45 v47 v49 v51 f4 k f
  | 0, _, _ => fun _ _ h => absurd h (by omega)
  | _ + 1, _, h => of_eq_true h

/-- What the trips share: the tile as it is, the scales found so far, the rest at some contents. -/
def heldV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (f4 : Buf (Elt Ideal) (View.loc (c : Thread nD τ) arg4.view)) (k : ℕ) : sProp 𝕄 :=
  iprop(pt c arg4 f4 ∗ (∃ f, pt c arg5 f) ∗ (∃ f, pt c arg6 f) ∗ (∃ f, pt c arg8 f) ∗ (∃ f, pt c arg11 f ∗ ⌜RowsAt c arg4 arg11 v20 v22 v24 v26 v28 v30 v32 v33 v35 v37 v39 v41 v43 v45 v47 v49 v51 f4 k f = True⌝) ∗ (∃ f, pt c arg12 f))

set_option maxHeartbeats 1000000 in
theorem tripV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (k0_t1 : Fin k0_t1_loop.trips) (acc : Unit) (f4 : Buf (Elt Ideal) (View.loc (c : Thread nD τ) arg4.view)) :
    heldV c i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 f4 k0_t1.val
      ⊢ wp frame (wpE (defs₀ (F := Ideal)) Variants.none c none) Set.univ (k0_t1_body (F := Ideal) i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 k0_t1 acc)
        (fun _ => heldV c i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 f4 (k0_t1.val + 1)) := by
  unfold heldV k0_t1_body
  iintro ⟨H4, ⟨%f5, H5⟩, ⟨%f6, H6⟩, ⟨%f8, H8⟩, ⟨%f11, H11, %hrows⟩, ⟨%f12, H12⟩⟩
  sl_exec_parts
  sl_step
  isplitl [H4]; · iexact H4
  isplitl [H5]; · iexists _; iexact H5
  isplitl [H6]; · iexists _; iexact H6
  isplitl [H8]; · iexists _; iexact H8
  isplitl [H11]
  · iexists _
    isplitl [H11]; · iexact H11
    ipureintro
    exact eq_true (rows_step c arg4 arg11 v20 v22 v24 v26 v28 v30 v32 v33 v35 v37 v39 v41 v43 v45 v47 v49 v51 f4 k0_t1 f11 _ _ (stored_eq c arg4 harg4 v20 v22 v24 v26 v28 v30 v32 v33 v35 v37 v39 v41 v43 v45 v47 v49 v51 k0_t1 f4) (RowsAt.rows hrows))
  iexists _; iexact H12

@[reducible, sl_loop] def loopInv (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (f4 : Buf (Elt Ideal) (View.loc (c : Thread nD τ) arg4.view)) :
    LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 where
  inv := fun k _ => heldV c i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 f4 k
  step := fun k acc => tripV c i arg2 harg2 arg3 harg3 arg4 harg4 arg5 harg5 arg6 harg6 arg7 harg7 arg8 harg8 arg9 harg9 arg10 harg10 arg11 harg11 arg12 harg12 arg1 v20 v22 v24 v26 v28 v30 v32 v33 v35 v37 v39 v41 v43 v45 v47 v49 v51 v54 v55 k acc f4

theorem fold_pair (h : Fin 24 → EReal) (z : EReal) :
    Finset.fold max z (fun x : Fin 1 × Fin 24 => h x.2) Finset.univ = Finset.fold max z h Finset.univ := by
  refine eq_of_forall_ge_iff fun w => ?_
  simp only [Finset.fold_max_le, Finset.mem_univ, true_implies]
  exact ⟨fun H => ⟨H.1, fun k => H.2 (0, k)⟩, fun H => ⟨H.1, fun x => H.2 x.2⟩⟩

theorem ofBits_one : Ideal.ofBits .f32 1065353216#32 = 1 := by
  have h : Ideal.ofBits .f32 1065353216#32 = ((1 : ℝ) : EReal) := by simp [Ideal.ofBits, Ideal.ieee, -EReal.coe_mul]; norm_num
  rw [h, EReal.coe_one]

/-- The tensor's scale as the body computes it. -/
theorem ts_eq (v5 : Vec Ideal S1x24 .f32) : k0_pay327 (F := Ideal) v5 (ix2 0 0) = tensorScale (fun k => v5 (ix2 0 k)) := by
  pointwise [k0_pay327]
  unfold tensorScale
  rw [ofBits_one, fold_pair (fun k => v5 (ix2 0 k))]

/-- The tensor's scale spread over eight rows. -/
theorem v20_eq (v5 : Vec Ideal S1x24 .f32) (s : Fin 8) (l : Fin 128) : k0_pay328 (F := Ideal) v5 (ix2 s l) = tensorScale (fun k => v5 (ix2 0 k)) := by
  refine Eq.trans ?_ (ts_eq v5)
  unfold k0_pay328
  generalize k0_pay327 v5 = w
  pointwise []

/-- One sign, loaded. -/
theorem load_one (c : Dev nD) (arg2 : Memref sig .tc .smem S16 .f32) (f2 : Buf (Elt Ideal) (View.loc (c : Thread nD τ) arg2.view)) (n : ℕ) (hn : n < 16) (inb) (h0) :
    arg2.view.readAt (Elt Ideal) (Rect.unit (s := S16) ![n] S1.size inb).toLoadRect f2 (Shape.Idx.first h0) = arg2.view.read (Elt Ideal) f2 (ix1 ⟨n, hn⟩) := by
  refine congrArg (arg2.view.read (Elt Ideal) f2) ?_
  funext a
  fin_cases a
  rfl

/-- The factors as the body computes them from the signs. -/
theorem factor_eq (w : Fin 16 → EReal) (n : Fin 16) :
    factor (k0_pay329 (F := Ideal) (w 0)) (k0_pay330 (F := Ideal) (w 1)) (k0_pay331 (F := Ideal) (w 2)) (k0_pay332 (F := Ideal) (w 3)) (k0_pay333 (F := Ideal) (w 4)) (k0_pay334 (F := Ideal) (w 5)) (w 6) (w 7) (w 8) (w 9) (w 10) (w 11) (w 12) (w 13) (w 14) (w 15) n = w n * Ideal.ofBits .f32 1048576000#32 :=
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨k + 16, h⟩ => absurd h (by omega)

/-- The block of scales stored at the end. -/
theorem bs_out (c : Dev nD) (arg2 : Memref sig .tc .smem S16 .f32) (arg3 : Memref sig .tc .vmem S1x24 .f32) (arg4 : Memref sig .tc .vmem S1x1408x128 .bf16) (arg7 : Memref sig .tc .vmem S1x88x128 .fp8e4m3) (arg11 : Memref sig .tc .vmem S88x128 .f32) (v5 : Vec Ideal S1x24 .f32) (w0 w1 w2 w3 w4 w5 w6 w7 w8 w9 w10 w11 w12 w13 w14 w15 : EReal)
    (f2 : Buf (Elt Ideal) (View.loc (c : Thread nD τ) arg2.view)) (f3 : Buf (Elt Ideal) (View.loc (c : Thread nD τ) arg3.view)) (f4 : Buf (Elt Ideal) (View.loc (c : Thread nD τ) arg4.view)) (fb : Buf (Elt Ideal) (View.loc (c : Thread nD τ) arg7.view)) (f : Buf (Elt Ideal) (View.loc (c : Thread nD τ) arg11.view)) (inb) (inb')
    (h : Rows c arg4 arg11 (k0_pay328 (F := Ideal) v5) (k0_pay329 (F := Ideal) w0) (k0_pay330 (F := Ideal) w1) (k0_pay331 (F := Ideal) w2) (k0_pay332 (F := Ideal) w3) (k0_pay333 (F := Ideal) w4) (k0_pay334 (F := Ideal) w5) w6 w7 w8 w9 w10 w11 w12 w13 w14 w15 f4 (Scf.trips k0_t1_loop.lb k0_t1_loop.ub k0_t1_loop.st) f)
    (hv5 : v5 = arg3.view.read (Elt Ideal) f3)
        (h0 : w0 = (arg2.view.read (Elt Ideal) f2 (ix1 0) : EReal))
    (h1 : w1 = (arg2.view.read (Elt Ideal) f2 (ix1 1) : EReal))
    (h2 : w2 = (arg2.view.read (Elt Ideal) f2 (ix1 2) : EReal))
    (h3 : w3 = (arg2.view.read (Elt Ideal) f2 (ix1 3) : EReal))
    (h4 : w4 = (arg2.view.read (Elt Ideal) f2 (ix1 4) : EReal))
    (h5 : w5 = (arg2.view.read (Elt Ideal) f2 (ix1 5) : EReal))
    (h6 : w6 = (arg2.view.read (Elt Ideal) f2 (ix1 6) : EReal))
    (h7 : w7 = (arg2.view.read (Elt Ideal) f2 (ix1 7) : EReal))
    (h8 : w8 = (arg2.view.read (Elt Ideal) f2 (ix1 8) : EReal))
    (h9 : w9 = (arg2.view.read (Elt Ideal) f2 (ix1 9) : EReal))
    (h10 : w10 = (arg2.view.read (Elt Ideal) f2 (ix1 10) : EReal))
    (h11 : w11 = (arg2.view.read (Elt Ideal) f2 (ix1 11) : EReal))
    (h12 : w12 = (arg2.view.read (Elt Ideal) f2 (ix1 12) : EReal))
    (h13 : w13 = (arg2.view.read (Elt Ideal) f2 (ix1 13) : EReal))
    (h14 : w14 = (arg2.view.read (Elt Ideal) f2 (ix1 14) : EReal))
    (h15 : w15 = (arg2.view.read (Elt Ideal) f2 (ix1 15) : EReal))
    (r : Fin 88) (l : Fin 128) :
    arg7.view.read (Elt Ideal) (arg7.view.writes (Elt Ideal) fb [⟨Rect.unit (s := S1x88x128) ![0, 0, 0] S1x88x128.size inb,
        k0_pay1 (F := Ideal) (k0_pay345 (F := Ideal) (arg11.view.readAt (Elt Ideal) (Rect.unit (s := S88x128) ![0, 0] S88x128.size inb').toLoadRect f))⟩]) (ix3 0 r l)
      = blockScale (fun k => arg3.view.read (Elt Ideal) f3 (ix2 0 k)) (fun n => arg2.view.read (Elt Ideal) f2 (ix1 n))
          (fun n => arg4.view.read (Elt Ideal) f4 (ix3 0 ⟨16 * r.val + n.val, by omega⟩ l)) := by
  have ht : Scf.trips k0_t1_loop.lb k0_t1_loop.ub k0_t1_loop.st = 11 := by decide +kernel
  rw [ht] at h
  rw [View.read_writes_full, View.readAt_full]
  refine Eq.trans ?_ ((h r l (by omega)).trans ?_)
  · generalize arg11.view.read (Elt Ideal) f = w
    pointwise [k0_pay1, k0_pay345]
  · unfold rowScale blockScale
    rw [v20_eq, hv5]
    rw [h0, h1, h2, h3, h4, h5, h6, h7, h8, h9, h10, h11, h12, h13, h14, h15]
    simp only [factor_eq (fun n => arg2.view.read (Elt Ideal) f2 (ix1 n))]

/-- What the body leaves: the signs and the amaxes as they were, the scales of the tile's blocks and the tensor's scale in the result blocks. -/
def leftV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (f2 : Buf (Elt Ideal) (View.loc (c : Thread nD τ) arg2.view)) (f3 : Buf (Elt Ideal) (View.loc (c : Thread nD τ) arg3.view)) (f4 : Buf (Elt Ideal) (View.loc (c : Thread nD τ) arg4.view)) : sProp 𝕄 :=
  iprop(pt c arg2 f2 ∗ pt c arg3 f3 ∗ (∃ f, pt c arg4 f) ∗ (∃ f, pt c arg5 f) ∗ (∃ f, pt c arg6 f) ∗ (∃ f, pt c arg7 f ∗ ⌜∀ r l, arg7.view.read (Elt Ideal) f (ix3 0 r l) = blockScale (fun k => arg3.view.read (Elt Ideal) f3 (ix2 0 k)) (fun n => arg2.view.read (Elt Ideal) f2 (ix1 n)) (fun n => arg4.view.read (Elt Ideal) f4 (ix3 0 ⟨16 * r.val + n.val, by omega⟩ l))⌝) ∗ (∃ f, pt c arg8 f) ∗ (∃ f, pt c arg9 f) ∗ (∃ f, pt c arg10 f ∗ ⌜arg10.view.read (Elt Ideal) f (ix2 0 0) = tensorScale (fun k => arg3.view.read (Elt Ideal) f3 (ix2 0 k))⌝) ∗ (∃ f, pt c arg11 f) ∗ (∃ f, pt c arg12 f))

set_option maxHeartbeats 1000000 in
theorem kernelRun (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x1408x128 .i8) (harg5 : arg5.IsWhole) (arg6 : Memref sig .tc .vmem S1x704x128 .i8) (harg6 : arg6.IsWhole) (arg7 : Memref sig .tc .vmem S1x88x128 .fp8e4m3) (harg7 : arg7.IsWhole) (arg8 : Memref sig .tc .vmem S1408x128 .bf16) (harg8 : arg8.IsWhole) (arg9 : Memref sig .tc .vmem S1x128 .f32) (harg9 : arg9.IsWhole) (arg10 : Memref sig .tc .vmem S1x1 .f32) (harg10 : arg10.IsWhole) (arg11 : Memref sig .tc .vmem S88x128 .f32) (harg11 : arg11.IsWhole) (arg12 : Memref sig .tc .vmem S8x128 .f32) (harg12 : arg12.IsWhole) (f2 : Buf (Elt Ideal) (View.loc (c : Thread nD τ) arg2.view)) (f3 : Buf (Elt Ideal) (View.loc (c : Thread nD τ) arg3.view)) (f4 : Buf (Elt Ideal) (View.loc (c : Thread nD τ) arg4.view)) (K : PUnit → sProp 𝕄) :
    iprop((pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f)) ∗ (leftV c i arg2 harg2 arg3 harg3 arg4 harg4 arg5 harg5 arg6 harg6 arg7 harg7 arg8 harg8 arg9 harg9 arg10 harg10 arg11 harg11 arg12 harg12 f2 f3 f4 -∗ K ⟨⟩))
      ⊢ wp frame (wpE (defs₀ (F := Ideal)) Variants.none c none) Set.univ (cc0_quant_dy (F := Ideal) i arg2 harg2 arg3 harg3 arg4 harg4 arg5 harg5 arg6 harg6 arg7 harg7 arg8 harg8 arg9 harg9 arg10 harg10 arg11 harg11 arg12 harg12) K := by
  iintro ⟨⟨H2, H3, H4, ⟨%f5, H5⟩, ⟨%f6, H6⟩, ⟨%f7, H7⟩, ⟨%f8, H8⟩, ⟨%f9, H9⟩, ⟨%f10, H10⟩, ⟨%f11, H11⟩, ⟨%f12, H12⟩⟩, Hk⟩
  by_cases h0 : Scalar.cmpi .ne (Scalar.extui (Scalar.andi (Scalar.cmpi .eq (BitVec.ofNat 32 (i 0).val) 0#32) (Scalar.cmpi .eq (BitVec.ofNat 32 (i 1).val) 0#32))) (0#32 : BitVec 32) = 1#1
  all_goals
    sl_exec_parts
    sl_step
    iapply Hk
    unfold leftV
    isplitl [H2]; · iexact H2
    isplitl [H3]; · iexact H3
    isplitl [H4]; · iexists _; iexact H4
    isplitl [H5]; · iexists _; iexact H5
    isplitl [H6]; · iexists _; iexact H6
    isplitl [H7]
    · iexists _; isplitl [H7]; · iexact H7
      ipureintro
      refine bs_out c arg2 arg3 arg4 arg7 arg11 _ _ _ _ _ _ _ _ _ _ _ _ _ _ _ _ _ f2 f3 f4 _ _ _ _ (RowsAt.rows hL5) ?_ ?_ ?_ ?_ ?_ ?_ ?_ ?_ ?_ ?_ ?_ ?_ ?_ ?_ ?_ ?_ ?_
      · exact View.readAt_full arg3.view f3 _
      · exact load_one c arg2 f2 0 (by omega) _ _
      · exact load_one c arg2 f2 1 (by omega) _ _
      · exact load_one c arg2 f2 2 (by omega) _ _
      · exact load_one c arg2 f2 3 (by omega) _ _
      · exact load_one c arg2 f2 4 (by omega) _ _
      · exact load_one c arg2 f2 5 (by omega) _ _
      · exact load_one c arg2 f2 6 (by omega) _ _
      · exact load_one c arg2 f2 7 (by omega) _ _
      · exact load_one c arg2 f2 8 (by omega) _ _
      · exact load_one c arg2 f2 9 (by omega) _ _
      · exact load_one c arg2 f2 10 (by omega) _ _
      · exact load_one c arg2 f2 11 (by omega) _ _
      · exact load_one c arg2 f2 12 (by omega) _ _
      · exact load_one c arg2 f2 13 (by omega) _ _
      · exact load_one c arg2 f2 14 (by omega) _ _
      · exact load_one c arg2 f2 15 (by omega) _ _
    isplitl [H8]; · iexists _; iexact H8
    isplitl [H9]; · iexists _; iexact H9
    isplitl [H10]
    · iexists _; isplitl [H10]; · iexact H10
      ipureintro
      exact (congrFun (View.read_writes_full arg10.view _ _ _ _) _).trans ((ts_eq _).trans (congrArg (fun v : Vec Ideal S1x24 .f32 => tensorScale fun k => v (ix2 0 k)) (View.readAt_full arg3.view f3 _)))
    isplitl [H11]; · iexists _; iexact H11
    iexists _; iexact H12

end Cert.QuantDyIdeal.Hand

end
-- ==== Proof.RunDy.lean ====
/-
  The whole call on its values: what each block of the grid leaves in the arrays of the scales and of the tensor's scale.

  The relation of a grid point says of an input's staging buffer that it stays as found, of the scales' buffer that it holds
  the scales of the point's blocks (`scaleArr`, on the lanes inside the array), and of the tensor's scale that it is
  `tensorScale`; of the other buffers nothing.
-/
module

public import proofs.«01_k».proof.Proof.ValueDy
public import proofs.«01_k».proof.Proof.Gen.QuantDyIdeal.Frame
public import Idealize.ShloMosaic.Lib.Pipeline.ArrRel
public import Idealize.ShloMosaic.Lib.StableHlo.ReadAt

@[expose] public section

set_option maxRecDepth 16384

noncomputable section

namespace Cert.QuantDyIdeal.Hand

open Cert.QuantDyIdeal Cert.QuantDyIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The last amaxes. -/
def hist (c : Dev nD) (k : Fin 24) : EReal := (m ((c.tc : Thread nD τ).loc main_arg3) : Vec Ideal S24 .f32) (ix1 k)

/-- The signs. -/
def signs (c : Dev nD) (n : Fin 16) : EReal := (m ((c.tc : Thread nD τ).loc main_arg1) : Vec Ideal S16 .f32) (ix1 n)

/-- The scale of block `r` of slice `b` in lane `l`. -/
def scaleAt (c : Dev nD) (b : Fin 6) (r : Fin 88) (l : Fin 11520) : EReal :=
  blockScale (hist m c) (signs m c) (fun n => (m ((c.tc : Thread nD τ).loc main_arg0) : Vec Ideal S6x1408x11520 .bf16) (ix3 b ⟨16 * r.val + n.val, by omega⟩ l))

/-- The array of the scales. -/
def scaleArr (c : Dev nD) : Vec Ideal S6x88x11520 .fp8e4m3 := fun i => scaleAt m c ⟨(i 0).val, (i 0).isLt⟩ ⟨(i 1).val, (i 1).isLt⟩ ⟨(i 2).val, (i 2).isLt⟩

/-- The array of the tensor's scale. -/
def tsArr (c : Dev nD) : Vec Ideal S1x1 .f32 := fun _ => tensorScale (hist m c)

theorem at2 : ∀ t : Fin grid0.N, win0_2.index t 0 = t.val / 90 ∧ win0_2.index t 1 = 0 ∧ win0_2.index t 2 = t.val % 90 := by decide +kernel

theorem atS : ∀ t : Fin grid0.N, win0_5.index t 0 = t.val / 90 ∧ win0_5.index t 1 = 0 ∧ win0_5.index t 2 = t.val % 90 := by decide +kernel

theorem xs2 : ∀ t : Fin grid0.N, win0_2.xsize (grid0.coords t) 0 = 1 ∧ win0_2.xsize (grid0.coords t) 1 = 1408
    ∧ win0_2.xsize (grid0.coords t) 2 = min 128 (11520 - 128 * (t.val % 90)) := by decide +kernel

theorem xsS : ∀ t : Fin grid0.N, win0_5.xsize (grid0.coords t) 0 = 1 ∧ win0_5.xsize (grid0.coords t) 1 = 88
    ∧ win0_5.xsize (grid0.coords t) 2 = min 128 (11520 - 128 * (t.val % 90)) := by decide +kernel

/-- What the body may leave in each window's staging buffer. -/
def left (c : Dev nD) : (w : Fin cfg0.W) → Fin cfg0.N → ((cfg0.win w).block.Idx → Elt Ideal (cfg0.win w).elt) → ((cfg0.win w).block.Idx → Elt Ideal (cfg0.win w).elt) → Prop
  | ⟨0, _⟩, _, Y, X => X = Y
  | ⟨1, _⟩, _, Y, X => X = Y
  | ⟨5, _⟩, t, _, X => ∀ (b : Fin 6) (r : Fin 88) (l : Fin 128) (h : 128 * (t.val % 90) + l.val < 11520), b.val = t.val / 90 →
      (X : Vec Ideal S1x88x128 .fp8e4m3) (ix3 0 r l) = scaleAt m c b r ⟨128 * (t.val % 90) + l.val, h⟩
  | ⟨8, _⟩, _, _, X => (X : Vec Ideal S1x1 .f32) (ix2 0 0) = tensorScale (hist m c)
  | _, _, _, _ => True

def rdat (c : Dev nD) : Pipeline.RDat τ (Elt Ideal) Unit ℕ (UR sig nD τ) ℕ cfg0 c where
  A w := V m c (Pipeline.arrRef spec0 w)
  after w t Y X := left m c w t Y X
  Φ _ := Pipeline.ΦA spec0 c
  q _ := fullShare
  owed _ := 0

theorem V_hist (c : Dev nD) (k : Fin 24) : (V m c main_v0 : Vec Ideal S1x24 .f32) (ix2 0 k) = hist m c k := by
  unfold V
  after_reads_at
  rfl

/-- The block of signs, as fetched. -/
theorem fetched0 (c : Dev nD) (t d) (n : Fin 16) : ((rdat m c).fetched 0 t d : Vec Ideal S16 .f32) (ix1 n) = signs m c n := by
  have e : ((rdat m c).fetched 0 t d : Vec Ideal S16 .f32) = fun j => V m c main_arg1 (((cfg0.win 0).blk t).view.emb j) := rfl
  rw [e]
  refine (congrFun (V_main_arg1 m c) _).trans ?_
  unfold signs
  congr 1
  funext a
  refine Fin.ext ?_
  fin_cases a
  show win0_0.index t 0 * 16 + 1 * n.val = n.val
  rw [show win0_0.index t 0 = 0 from rfl]; omega

/-- The block of amaxes, as fetched. -/
theorem fetched1 (c : Dev nD) (t d) (k : Fin 24) : ((rdat m c).fetched 1 t d : Vec Ideal S1x24 .f32) (ix2 0 k) = hist m c k := by
  have e : ((rdat m c).fetched 1 t d : Vec Ideal S1x24 .f32) = fun j => V m c main_v0 (((cfg0.win 1).blk t).view.emb j) := rfl
  rw [e, ← V_hist]
  beta_reduce
  congr 1
  funext a
  refine Fin.ext ?_
  match a with
  | ⟨0, _⟩ => show win0_1.index t 0 * 1 + 1 * 0 = 0; rw [show win0_1.index t 0 = 0 from rfl]
  | ⟨1, _⟩ => show win0_1.index t 1 * 24 + 1 * k.val = k.val; rw [show win0_1.index t 1 = 0 from rfl]; omega

/-- The block of tokens, as fetched, on the lanes inside the array. -/
theorem fetched2 (c : Dev nD) (t : Fin cfg0.N) (d) (s : Fin 1408) (l : Fin 128) (b : Fin 6) (hb : b.val = t.val / 90) (h : 128 * (t.val % 90) + l.val < 11520) :
    ((rdat m c).fetched 2 t d : Vec Ideal S1x1408x128 .bf16) (ix3 0 s l)
      = (m ((c.tc : Thread nD τ).loc main_arg0) : Vec Ideal S6x1408x11520 .bf16) (ix3 b s ⟨128 * (t.val % 90) + l.val, h⟩) := by
  have hm : (cfg0.win 2).moved (cfg0.grid.coords t) (ix3 (0 : Fin 1) s l) = true := ((cfg0.win 2).moved_iff _ _).mpr fun a => by
    match a with
    | ⟨0, _⟩ => show 0 < win0_2.xsize (grid0.coords t) 0; rw [(xs2 t).1]; omega
    | ⟨1, _⟩ => show s.val < win0_2.xsize (grid0.coords t) 1; rw [(xs2 t).2.1]; omega
    | ⟨2, _⟩ => show l.val < win0_2.xsize (grid0.coords t) 2; rw [(xs2 t).2.2]; omega
  unfold Pipeline.RDat.fetched Pipeline.Window.fill
  rw [dif_pos hm]
  refine Eq.trans ?_ (congrFun (V_main_arg0 m c) _)
  show V m c main_arg0 (((cfg0.win 2).blk t).view.emb _) = V m c main_arg0 _
  congr 1
  funext a
  refine Fin.ext ?_
  match a with
  | ⟨0, _⟩ => show win0_2.index t 0 * 1 + 1 * 0 = b.val; rw [(at2 t).1, hb]; omega
  | ⟨1, _⟩ => show win0_2.index t 1 * 1408 + 1 * s.val = s.val; rw [(at2 t).2.1]; omega
  | ⟨2, _⟩ => show win0_2.index t 2 * 128 + 1 * l.val = 128 * (t.val % 90) + l.val; rw [(at2 t).2.2]; omega

theorem found0 (c : Dev nD) (t Y) (h : (rdat m c).Finds 0 t Y) (n : Fin 16) : (Y : Vec Ideal S16 .f32) (ix1 n) = signs m c n := by
  obtain ⟨d, rfl⟩ := (rdat m c).finds_in_eq_fetched 0 rfl (fun _ _ _ => rfl) (fun _ _ _ h => h) t Y h
  exact fetched0 m c t d n

theorem found1 (c : Dev nD) (t Y) (h : (rdat m c).Finds 1 t Y) (k : Fin 24) : (Y : Vec Ideal S1x24 .f32) (ix2 0 k) = hist m c k := by
  obtain ⟨d, rfl⟩ := (rdat m c).finds_in_eq_fetched 1 rfl (fun _ _ _ => rfl) (fun _ _ _ h => h) t Y h
  exact fetched1 m c t d k

theorem found2 (c : Dev nD) (t : Fin cfg0.N) (Y) (h : (rdat m c).Finds 2 t Y) (s : Fin 1408) (l : Fin 128) (b : Fin 6) (hb : b.val = t.val / 90) (hl : 128 * (t.val % 90) + l.val < 11520) :
    (Y : Vec Ideal S1x1408x128 .bf16) (ix3 0 s l)
      = (m ((c.tc : Thread nD τ).loc main_arg0) : Vec Ideal S6x1408x11520 .bf16) (ix3 b s ⟨128 * (t.val % 90) + l.val, hl⟩) := by
  obtain ⟨d, rfl⟩ := ((rdat m c).finds_of_fetch (fetch0_2 t) Y).mp h
  exact fetched2 m c t d s l b hb hl

/-- A whole memref owned at some contents: its buffer's points-to at a buffer that reads as them. -/
theorem owns_open (c : Dev nD) {sp : Space} {S : Shape} {el : EltTy} (M : Memref sig .tc sp S el) (h : M.IsWhole) (X : S.Idx → Elt Ideal el) :
    (owns (c : Thread nD τ) M fullShare X : sProp 𝕄) ⊢ iprop(∃ f, ⌜M.view.read (Elt Ideal) f = X⌝ ∗ pt c M f) := by
  obtain ⟨b, hsp, hsh, he, h⟩ := h
  subst hsp hsh he
  cases h
  rw [owns_whole]
  iintro H
  iexists X
  isplitr
  · ipureintro; rfl
  iexact H

theorem owns_close (c : Dev nD) {sp : Space} {S : Shape} {el : EltTy} (M : Memref sig .tc sp S el) (h : M.IsWhole) (f : Buf (Elt Ideal) (View.loc (c : Thread nD τ) M.view)) :
    (pt c M f : sProp 𝕄) ⊢ owns (c : Thread nD τ) M fullShare (M.view.read (Elt Ideal) f) := by
  obtain ⟨b, hsp, hsh, he, h⟩ := h
  subst hsp hsh he
  cases h
  rw [owns_whole]
  iintro H
  iexact H

/-- What the body may use besides the windows: the two scratch arrays at some contents, and the register. -/
theorem phi_eq (c : Dev nD) (t) : (rdat m c).Φ t
    = iprop(((∃ f, pt c (Memref.whole cc0_scratch0) f) ∗ (∃ f, pt c (Memref.whole cc0_scratch1) f)) ∗ (∃ r, prngReg c r)) := by
  show Pipeline.ΦA spec0 c = _
  unfold Pipeline.ΦA
  rw [scopedRest0_eq]

theorem scales_left (c : Dev nD) (t : Fin cfg0.N) (Y0 Y1 Y2) (h0 : (rdat m c).Finds 0 t Y0) (h1 : (rdat m c).Finds 1 t Y1) (h2 : (rdat m c).Finds 2 t Y2)
    (Y X) (h : ∀ r l, (X : Vec Ideal S1x88x128 .fp8e4m3) (ix3 0 r l) = blockScale (fun k => (Y1 : Vec Ideal S1x24 .f32) (ix2 0 k)) (fun n => (Y0 : Vec Ideal S16 .f32) (ix1 n))
      (fun n => (Y2 : Vec Ideal S1x1408x128 .bf16) (ix3 0 ⟨16 * r.val + n.val, by omega⟩ l))) : left m c 5 t Y X := by
  intro b r l hl hb
  refine (h r l).trans ?_
  unfold scaleAt
  rw [show (fun k => (Y1 : Vec Ideal S1x24 .f32) (ix2 0 k)) = hist m c from funext fun k => found1 m c t Y1 h1 k,
    show (fun n => (Y0 : Vec Ideal S16 .f32) (ix1 n)) = signs m c from funext fun n => found0 m c t Y0 h0 n]
  congr 1
  funext n
  exact found2 m c t Y2 h2 _ l b hb hl

set_option maxHeartbeats 1000000 in
theorem body_obligation (c : Dev nD) : (rdat m c).BodyObligation (defs₀ (F := Ideal)) Variants.none () Set.univ := by
  intro t Y hY
  rw [bigSep_W0, bigSep_W0, defs₀_row, phi_eq, phi_eq]
  unfold bodyAt0
  iintro ⟨⟨⟨⟨%s0, HS0⟩, ⟨%s1, HS1⟩⟩, Hg⟩, HO, H0, H1, H2, H3, H4, H5, H6, H7, H8⟩
  icases (owns_open c _ (stage_whole0 0 _) _) $$ H0 with ⟨%f0, %e0, H0⟩
  icases (owns_open c _ (stage_whole0 1 _) _) $$ H1 with ⟨%f1, %e1, H1⟩
  icases (owns_open c _ (stage_whole0 2 _) _) $$ H2 with ⟨%f2, %e2, H2⟩
  icases (owns_open c _ (stage_whole0 3 _) _) $$ H3 with ⟨%f3, %e3, H3⟩
  icases (owns_open c _ (stage_whole0 4 _) _) $$ H4 with ⟨%f4, %e4, H4⟩
  icases (owns_open c _ (stage_whole0 5 _) _) $$ H5 with ⟨%f5, %e5, H5⟩
  icases (owns_open c _ (stage_whole0 6 _) _) $$ H6 with ⟨%f6, %e6, H6⟩
  icases (owns_open c _ (stage_whole0 7 _) _) $$ H7 with ⟨%f7, %e7, H7⟩
  icases (owns_open c _ (stage_whole0 8 _) _) $$ H8 with ⟨%f8, %e8, H8⟩
  iapply (kernelRun c (grid0.coords t) _ _ _ _ _ _ _ _ _ _ _ _ _ _ _ _ _ _ _ _ _ _ f0 f1 f2 _)
  isplitr [HO Hg]
  · isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    iexists _; iexact HS1
  unfold leftV
  iintro ⟨H0, H1, ⟨%g2, H2⟩, ⟨%g3, H3⟩, ⟨%g4, H4⟩, ⟨%g5, H5, %hs⟩, ⟨%g6, H6⟩, ⟨%g7, H7⟩, ⟨%g8, H8, %ht⟩, HS0, HS1⟩
  isplitl [HS0 HS1 Hg]
  · isplitl [HS0 HS1]
    · isplitl [HS0]; · iexact HS0
      iexact HS1
    iexact Hg
  isplitl [HO]; · iexact HO
  isplitl [H0]
  · icases (owns_close c _ (stage_whole0 0 _) f0) $$ H0 with H0
    iexists (((spec0 0).stage (cfg0.slots t 0)).view.read (Elt Ideal) f0); isplitr
    · ipureintro; exact e0
    iexact H0
  isplitl [H1]
  · icases (owns_close c _ (stage_whole0 1 _) f1) $$ H1 with H1
    iexists (((spec0 1).stage (cfg0.slots t 1)).view.read (Elt Ideal) f1); isplitr
    · ipureintro; exact e1
    iexact H1
  isplitl [H2]
  · icases (owns_close c _ (stage_whole0 2 _) g2) $$ H2 with H2
    iexists (((spec0 2).stage (cfg0.slots t 2)).view.read (Elt Ideal) g2); isplitr
    · ipureintro; trivial
    iexact H2
  isplitl [H3]
  · icases (owns_close c _ (stage_whole0 3 _) g3) $$ H3 with H3
    iexists (((spec0 3).stage (cfg0.slots t 3)).view.read (Elt Ideal) g3); isplitr
    · ipureintro; trivial
    iexact H3
  isplitl [H4]
  · icases (owns_close c _ (stage_whole0 4 _) g4) $$ H4 with H4
    iexists (((spec0 4).stage (cfg0.slots t 4)).view.read (Elt Ideal) g4); isplitr
    · ipureintro; trivial
    iexact H4
  isplitl [H5]
  · icases (owns_close c _ (stage_whole0 5 _) g5) $$ H5 with H5
    iexists (((spec0 5).stage (cfg0.slots t 5)).view.read (Elt Ideal) g5); isplitr
    · ipureintro; exact scales_left m c t _ _ _ (hY 0) (hY 1) (hY 2) (Y 5) _ (by rw [← e0, ← e1, ← e2]; exact hs)
    iexact H5
  isplitl [H6]
  · icases (owns_close c _ (stage_whole0 6 _) g6) $$ H6 with H6
    iexists (((spec0 6).stage (cfg0.slots t 6)).view.read (Elt Ideal) g6); isplitr
    · ipureintro; trivial
    iexact H6
  isplitl [H7]
  · icases (owns_close c _ (stage_whole0 7 _) g7) $$ H7 with H7
    iexists (((spec0 7).stage (cfg0.slots t 7)).view.read (Elt Ideal) g7); isplitr
    · ipureintro; trivial
    iexact H7
  icases (owns_close c _ (stage_whole0 8 _) g8) $$ H8 with H8
  iexists (((spec0 8).stage (cfg0.slots t 8)).view.read (Elt Ideal) g8); isplitr
  · ipureintro; exact ht.trans (congrArg tensorScale (funext fun k => (congrFun e1 _).trans (found1 m c t _ (hY 1) k)))
  iexact H8

set_option backward.isDefEq.respectTransparency.types false in
theorem run_main :
    θ_run defs (onTc (τ := τ) (main (F := Ideal))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

theorem frame_run : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => ⟨(h.1.arr_in c 2 rfl).trans (V_main_arg0 m c), (h.1.arr_in c 0 rfl).trans (V_main_arg1 m c), (h.1.arr_in c 3 rfl).trans (V_main_arg2 m c), ((h.1 c).2 main_arg3 (Pipeline.mem_restRefs_of main_arg3 (by decide) (by decide))).trans (V_main_arg3 m c)⟩, h.2⟩) (run_main m ρ)

/-- The array of the scales at the end. -/
theorem scales_final (c : Dev nD) (after) (hL : ∀ u : Fin cfg0.N, (cfg0.win 5).flush u = true → (rdat m c).Leaves 5 u (after 5 u)) :
    ((rdat m c).withAfter after).arrAt 5 cfg0.N = scaleArr m c := by
  refine ((rdat m c).withAfter after).arrAt_eq_of_cover 5 (scaleArr m c) (fun t hf => ?_) (fun i => ?_)
  · obtain ⟨Y, -, h⟩ := hL t hf
    have hN : t.val < 540 := lt_of_lt_of_eq t.isLt (show cfg0.N = 540 from N_0)
    funext j
    have h0 : (j 0).val < 1 := lt_of_lt_of_eq (j 0).isLt (xsS t).1
    have h1 : (j 1).val < 88 := lt_of_lt_of_eq (j 1).isLt (xsS t).2.1
    have h2 : (j 2).val < min 128 (11520 - 128 * (t.val % 90)) := lt_of_lt_of_eq (j 2).isLt (xsS t).2.2
    have key := h ⟨t.val / 90, by omega⟩ ⟨(j 1).val, h1⟩ ⟨(j 2).val, by omega⟩ (by show 128 * (t.val % 90) + (j 2).val < 11520; omega) rfl
    rw [View.read_apply]
    refine Eq.trans ?_ (key.trans ?_)
    · show after 5 t _ = after 5 t _
      congr 1
      funext a
      refine Fin.ext ?_
      match a with
      | ⟨0, _⟩ => show (j 0).val = 0; omega
      | ⟨1, _⟩ => rfl
      | ⟨2, _⟩ => rfl
    · show scaleAt m c _ _ _ = scaleAt m c _ _ _
      congr 1
      · refine Fin.ext ?_
        show t.val / 90 = win0_5.index t 0 * 1 + 1 * (j 0).val
        rw [(atS t).1]; omega
      · refine Fin.ext ?_
        show (j 1).val = win0_5.index t 1 * 88 + 1 * (j 1).val
        rw [(atS t).2.1]; omega
      · refine Fin.ext ?_
        show 128 * (t.val % 90) + (j 2).val = win0_5.index t 2 * 128 + 1 * (j 2).val
        rw [(atS t).2.2]; omega
  · have h0 : (i 0 : Nat) < 6 := (i 0).isLt
    have h1 : (i 1 : Nat) < 88 := (i 1).isLt
    have h2 : (i 2 : Nat) < 11520 := (i 2).isLt
    have hlt : (i 0 : Nat) * 90 + (i 2 : Nat) / 128 < grid0.N := by rw [N_0]; omega
    let t : Fin grid0.N := ⟨(i 0 : Nat) * 90 + (i 2 : Nat) / 128, hlt⟩
    have ht : t.val = (i 0 : Nat) * 90 + (i 2 : Nat) / 128 := rfl
    refine ⟨t, flush0_5 t, ?_⟩
    show i ∈ ((View.whole main_v1_1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + win0_5.xsize (grid0.coords t) 0
      rw [(atS t).1, (xsS t).1]; omega
    | ⟨1, _⟩ =>
      show win0_5.index t 1 * 88 ≤ (i 1 : Nat) ∧ (i 1 : Nat) < win0_5.index t 1 * 88 + win0_5.xsize (grid0.coords t) 1
      rw [(atS t).2.1, (xsS t).2.1]; omega
    | ⟨2, _⟩ =>
      show win0_5.index t 2 * 128 ≤ (i 2 : Nat) ∧ (i 2 : Nat) < win0_5.index t 2 * 128 + win0_5.xsize (grid0.coords t) 2
      rw [(atS t).2.2, (xsS t).2.2]; omega

theorem wholeT : (cfg0.win 8).WholeAt (⟨539, by decide⟩ : Fin cfg0.N) := by decide +kernel

/-- The tensor's scale at the end. -/
theorem ts_final (c : Dev nD) (after) (hL : ∀ u : Fin cfg0.N, (cfg0.win 8).flush u = true → (rdat m c).Leaves 8 u (after 8 u)) :
    ((rdat m c).withAfter after).arrAt 8 cfg0.N = tsArr m c := by
  obtain ⟨Y, -, h⟩ := hL _ wholeT.1
  funext i
  refine (Pipeline.Dat.arrAt_emb_eq_after_last ((rdat m c).withAfter after) 8 _ wholeT i).trans ?_
  refine Eq.trans ?_ h
  show after 8 _ _ = after 8 _ _
  congr 1
  funext a
  refine Fin.ext ?_
  have hi : ∀ a, (i a).val = 0 := fun a => by
    have := (i a).isLt
    match a with
    | ⟨0, _⟩ => exact Nat.lt_one_iff.mp this
    | ⟨1, _⟩ => exact Nat.lt_one_iff.mp this
  match a with
  | ⟨0, _⟩ => exact hi 0
  | ⟨1, _⟩ => exact hi 1

/-- The call ends with the scales and the tensor's scale in their arrays, its arguments unchanged. -/
theorem value_run : θ_run defs (onTc (τ := τ) (main (F := Ideal))) ⟨m, fun _ => 0, ρ⟩ (fun r => ∀ c : Dev nD,
    r.2.mem ((c.tc : Thread nD τ).loc main_v1_1) = scaleArr m c ∧ r.2.mem ((c.tc : Thread nD τ).loc main_v1_4) = tsArr m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h => fun c => by
    obtain ⟨after, hL, hA⟩ := Pipeline.RDat.FramePost.exists_exact h.1 c
    exact ⟨(hA 5).trans (scales_final m c after (hL 5)), (hA 8).trans (ts_final m c after (hL 8)), (h.1.arr_in c 2 rfl).trans (V_main_arg0 m c), (h.1.arr_in c 0 rfl).trans (V_main_arg1 m c), (h.1.arr_in c 3 rfl).trans (V_main_arg2 m c), ((h.1 c).2 main_arg3 (Pipeline.mem_restRefs_of main_arg3 (by decide) (by decide))).trans (V_main_arg3 m c)⟩) (run_main m ρ)

end Cert.QuantDyIdeal.Hand

end
-- ==== Proof.HostDy.lean ====
/-
  The run of the reference of the scales: its operations as a list, and each buffer at what the list leaves in it.
-/
module

public import proofs.«01_k».proof.Proof.Gen.ScaleDyIdeal
public import Idealize.ShloMosaic.Lib.StableHlo.Run
public import Idealize.ShloMosaic.Lib.Pipeline.Regions
public import Idealize.ShloMosaic.Lib.Quiescent

@[expose] public section

set_option maxRecDepth 16384

noncomputable section

namespace Cert.ScaleDyIdeal.Hand

open Cert.ScaleDyIdeal Cert.ScaleDyIdeal.Gen Idealize.ShloMosaic Idealize.ShloMosaic.TcCoe Idealize.SL.Sem Idealize.ShloMosaic.StableHlo

variable {F : FTy → Type} [FloatOps F]

/-- The operations of the reference, in order. -/
abbrev ops0 : List (HloOp τ sig (Elt F)) :=
  ( nullary main_v0 (iotaInDim S16x16 32 0)
  :: nullary main_v1 (iotaInDim S16x16 32 1)
  :: binary main_v0 main_v1 main_v2 (andi : (⟨S16x16, .i32⟩ : BufTy).Contents (Elt F) → (⟨S16x16, .i32⟩ : BufTy).Contents (Elt F) → (⟨S16x16, .i32⟩ : BufTy).Contents (Elt F))
  :: unary main_v2 main_v3 (ctpop : (⟨S16x16, .i32⟩ : BufTy).Contents (Elt F) → (⟨S16x16, .i32⟩ : BufTy).Contents (Elt F))
  :: nullary main_c (constantI S_ 32 1#32)
  :: unary main_c main_v4 (broadcastInDim S16x16 ![] bcast_S_S16x16 : (⟨S_, .i32⟩ : BufTy).Contents (Elt F) → (⟨S16x16, .i32⟩ : BufTy).Contents (Elt F))
  :: binary main_v3 main_v4 main_v5 (andi : (⟨S16x16, .i32⟩ : BufTy).Contents (Elt F) → (⟨S16x16, .i32⟩ : BufTy).Contents (Elt F) → (⟨S16x16, .i32⟩ : BufTy).Contents (Elt F))
  :: nullary main_c_0 (constantI S_ 32 2#32)
  :: unary main_c_0 main_v6 (broadcastInDim S16x16 ![] bcast_S_S16x16 : (⟨S_, .i32⟩ : BufTy).Contents (Elt F) → (⟨S16x16, .i32⟩ : BufTy).Contents (Elt F))
  :: binary main_v6 main_v5 main_v7 (muli : (⟨S16x16, .i32⟩ : BufTy).Contents (Elt F) → (⟨S16x16, .i32⟩ : BufTy).Contents (Elt F) → (⟨S16x16, .i32⟩ : BufTy).Contents (Elt F))
  :: nullary main_c_1 (constantI S_ 32 1#32)
  :: unary main_c_1 main_v8 (broadcastInDim S16x16 ![] bcast_S_S16x16 : (⟨S_, .i32⟩ : BufTy).Contents (Elt F) → (⟨S16x16, .i32⟩ : BufTy).Contents (Elt F))
  :: binary main_v8 main_v7 main_v9 (subi : (⟨S16x16, .i32⟩ : BufTy).Contents (Elt F) → (⟨S16x16, .i32⟩ : BufTy).Contents (Elt F) → (⟨S16x16, .i32⟩ : BufTy).Contents (Elt F))
  :: unary main_v9 main_v10 (sitofp .f32 : (⟨S16x16, .i32⟩ : BufTy).Contents (Elt F) → (⟨S16x16, .f32⟩ : BufTy).Contents (Elt F))
  :: unary main_arg1 main_v11 (broadcastInDim S1x16 ![1] bcast_S16_S1x16_1 : (⟨S16, .f32⟩ : BufTy).Contents (Elt F) → (⟨S1x16, .f32⟩ : BufTy).Contents (Elt F))
  :: unary main_v11 main_v12 (broadcastInDim S16x16 ![0, 1] bcast_S1x16_S16x16_0_1 : (⟨S1x16, .f32⟩ : BufTy).Contents (Elt F) → (⟨S16x16, .f32⟩ : BufTy).Contents (Elt F))
  :: binary main_v10 main_v12 main_v13 (mulf : (⟨S16x16, .f32⟩ : BufTy).Contents (Elt F) → (⟨S16x16, .f32⟩ : BufTy).Contents (Elt F) → (⟨S16x16, .f32⟩ : BufTy).Contents (Elt F))
  :: nullary main_cst (constant S_ .f32 0x3E800000#32)
  :: unary main_cst main_v14 (broadcastInDim S16x16 ![] bcast_S_S16x16 : (⟨S_, .f32⟩ : BufTy).Contents (Elt F) → (⟨S16x16, .f32⟩ : BufTy).Contents (Elt F))
  :: binary main_v13 main_v14 main_v15 (mulf : (⟨S16x16, .f32⟩ : BufTy).Contents (Elt F) → (⟨S16x16, .f32⟩ : BufTy).Contents (Elt F) → (⟨S16x16, .f32⟩ : BufTy).Contents (Elt F))
  :: unary main_arg0 main_v16 ((extf .f32 · bitsLt_bf16_f32) : (⟨S6x1408x11520, .bf16⟩ : BufTy).Contents (Elt F) → (⟨S6x1408x11520, .f32⟩ : BufTy).Contents (Elt F))
  :: reshape main_v16 main_v17 (rfl : (.f32 : EltTy) = .f32) shapeCasts_S6x1408x11520_S6x88x16x11520
  :: binary main_v17 main_v15 main_v18 ((fun l r => Host.dotGeneral dot_S6x88x16x11520_S16x16_S6x88x11520x16_2_1_013_0_n_n (some .fp32) l r) : (⟨S6x88x16x11520, .f32⟩ : BufTy).Contents (Elt F) → (⟨S16x16, .f32⟩ : BufTy).Contents (Elt F) → (⟨S6x88x11520x16, .f32⟩ : BufTy).Contents (Elt F))
  :: unary main_v18 main_v19 ((transpose S6x88x16x11520 [0, 1, 3, 2] · transposes_S6x88x11520x16_S6x88x16x11520_0_1_3_2) : (⟨S6x88x11520x16, .f32⟩ : BufTy).Contents (Elt F) → (⟨S6x88x16x11520, .f32⟩ : BufTy).Contents (Elt F))
  :: reshape main_v19 main_v20 (rfl : (.f32 : EltTy) = .f32) shapeCasts_S6x88x16x11520_S6x1408x11520
  :: nullary main_cst_2 (constant S_ .f32 0xFF800000#32)
  :: binary main_arg3 main_cst_2 main_v21 ((fun x v => Host.reduce FloatOps.maximumf x v reducesTo_S24_S_d0 h_S_) : (⟨S24, .f32⟩ : BufTy).Contents (Elt F) → (⟨S_, .f32⟩ : BufTy).Contents (Elt F) → (⟨S_, .f32⟩ : BufTy).Contents (Elt F))
  :: reshape main_v21 main_v22 (rfl : (.f32 : EltTy) = .f32) shapeCasts_S_S1x1
  :: nullary main_cst_3 (constant S_ .f32 0x00000000#32)
  :: unary main_cst_3 main_v23 (broadcastInDim S1x1 ![] bcast_S_S1x1 : (⟨S_, .f32⟩ : BufTy).Contents (Elt F) → (⟨S1x1, .f32⟩ : BufTy).Contents (Elt F))
  :: binary main_v22 main_v23 main_v24 (cmpf .ogt : (⟨S1x1, .f32⟩ : BufTy).Contents (Elt F) → (⟨S1x1, .f32⟩ : BufTy).Contents (Elt F) → (⟨S1x1, .i1⟩ : BufTy).Contents (Elt F))
  :: nullary main_cst_4 (constant S_ .f32 0x45280000#32)
  :: unary main_cst_4 main_v25 (broadcastInDim S1x1 ![] bcast_S_S1x1 : (⟨S_, .f32⟩ : BufTy).Contents (Elt F) → (⟨S1x1, .f32⟩ : BufTy).Contents (Elt F))
  :: binary main_v22 main_v25 main_v26 (Host.divf : (⟨S1x1, .f32⟩ : BufTy).Contents (Elt F) → (⟨S1x1, .f32⟩ : BufTy).Contents (Elt F) → (⟨S1x1, .f32⟩ : BufTy).Contents (Elt F))
  :: nullary main_cst_5 (constant S_ .f32 0x3F800000#32)
  :: [] )
theorem ops0_sub : (ops0 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., nullary_bufs_sub .., binary_bufs_sub .., reshape_bufs_sub .., nullary_bufs_sub .., unary_bufs_sub .., binary_bufs_sub .., nullary_bufs_sub .., unary_bufs_sub .., binary_bufs_sub .., nullary_bufs_sub ..⟩
/-- The operations of the reference, in order. -/
abbrev ops1 : List (HloOp τ sig (Elt F)) :=
  [ TRef.unary (.of main_cst_5 : TRef sig ⟨S_, .f32⟩) (.of main_call0_v0 : TRef sig ⟨S_, .f32⟩) id,
    TRef.unary (.of main_call0_v0 : TRef sig ⟨S_, .f32⟩) (.of main_call0_v1 : TRef sig ⟨S1x1, .f32⟩) (broadcastInDim S1x1 ![] bcast_S_S1x1),
    TRef.ternary (.of main_v24 : TRef sig ⟨S1x1, .i1⟩) (.of main_v26 : TRef sig ⟨S1x1, .f32⟩) (.of main_call0_v1 : TRef sig ⟨S1x1, .f32⟩) (.of main_v27 : TRef sig ⟨S1x1, .f32⟩) select ]
theorem ops1_sub : (ops1 : List (HloOp τ sig (Elt F))).Forall fun op => op.bufs ⊆ tcRefs τ sig :=
  ⟨unary_bufs_sub .., unary_bufs_sub .., ternary_bufs_sub ..⟩
/-- The operations of the reference, in order. -/
abbrev ops2 : List (HloOp τ sig (Elt F)) :=
  [ reshape main_v20 main_v28 (rfl : (.f32 : EltTy) = .f32) shapeCasts_S6x1408x11520_S6x88x16x11520,
    unary main_v28 main_v29 (Host.absf : (⟨S6x88x16x11520, .f32⟩ : BufTy).Contents (Elt F) → (⟨S6x88x16x11520, .f32⟩ : BufTy).Contents (Elt F)),
    nullary main_cst_6 (constant S_ .f32 0xFF800000#32),
    binary main_v29 main_cst_6 main_v30 ((fun x v => Host.reduce FloatOps.maximumf x v reducesTo_S6x88x16x11520_S6x88x11520_d2 h_S_) : (⟨S6x88x16x11520, .f32⟩ : BufTy).Contents (Elt F) → (⟨S_, .f32⟩ : BufTy).Contents (Elt F) → (⟨S6x88x11520, .f32⟩ : BufTy).Contents (Elt F)),
    reshape main_v27 main_v31 (rfl : (.f32 : EltTy) = .f32) shapeCasts_S1x1_S1,
    nullary main_cst_7 (constant S_ .f32 0x40C00000#32),
    unary main_cst_7 main_v32 (broadcastInDim S1 ![] bcast_S_S1 : (⟨S_, .f32⟩ : BufTy).Contents (Elt F) → (⟨S1, .f32⟩ : BufTy).Contents (Elt F)),
    binary main_v32 main_v31 main_v33 (mulf : (⟨S1, .f32⟩ : BufTy).Contents (Elt F) → (⟨S1, .f32⟩ : BufTy).Contents (Elt F) → (⟨S1, .f32⟩ : BufTy).Contents (Elt F)),
    unary main_v33 main_v34 (broadcastInDim S1x1x1 ![2] bcast_S1_S1x1x1_2 : (⟨S1, .f32⟩ : BufTy).Contents (Elt F) → (⟨S1x1x1, .f32⟩ : BufTy).Contents (Elt F)),
    unary main_v34 main_v35 (broadcastInDim S6x88x11520 ![0, 1, 2] bcast_S1x1x1_S6x88x11520_0_1_2 : (⟨S1x1x1, .f32⟩ : BufTy).Contents (Elt F) → (⟨S6x88x11520, .f32⟩ : BufTy).Contents (Elt F)),
    binary main_v30 main_v35 main_v36 (Host.divf : (⟨S6x88x11520, .f32⟩ : BufTy).Contents (Elt F) → (⟨S6x88x11520, .f32⟩ : BufTy).Contents (Elt F) → (⟨S6x88x11520, .f32⟩ : BufTy).Contents (Elt F)),
    nullary main_cst_8 (constant S_ .f32 0x00000000#32),
    nullary main_cst_9 (constant S_ .f32 0x43E00000#32) ]
theorem ops2_sub : (ops2 : List (HloOp τ sig (Elt F))).Forall fun op => op.bufs ⊆ tcRefs τ sig :=
  ⟨reshape_bufs_sub .., unary_bufs_sub .., nullary_bufs_sub .., binary_bufs_sub .., reshape_bufs_sub .., nullary_bufs_sub .., unary_bufs_sub .., binary_bufs_sub .., unary_bufs_sub .., unary_bufs_sub .., binary_bufs_sub .., nullary_bufs_sub .., nullary_bufs_sub ..⟩
/-- The operations of the reference, in order. -/
abbrev ops3 : List (HloOp τ sig (Elt F)) :=
  [ TRef.unary (.of main_cst_8 : TRef sig ⟨S_, .f32⟩) (.of main_call1_v0 : TRef sig ⟨S_, .f32⟩) id,
    TRef.unary (.of main_call1_v0 : TRef sig ⟨S_, .f32⟩) (.of main_call1_v1 : TRef sig ⟨S6x88x11520, .f32⟩) (broadcastInDim S6x88x11520 ![] bcast_S_S6x88x11520),
    TRef.binary (.of main_call1_v1 : TRef sig ⟨S6x88x11520, .f32⟩) (.of main_v36 : TRef sig ⟨S6x88x11520, .f32⟩) (.of main_call1_v2 : TRef sig ⟨S6x88x11520, .f32⟩) maximumf,
    TRef.unary (.of main_cst_9 : TRef sig ⟨S_, .f32⟩) (.of main_call1_v3 : TRef sig ⟨S_, .f32⟩) id,
    TRef.unary (.of main_call1_v3 : TRef sig ⟨S_, .f32⟩) (.of main_call1_v4 : TRef sig ⟨S6x88x11520, .f32⟩) (broadcastInDim S6x88x11520 ![] bcast_S_S6x88x11520),
    TRef.binary (.of main_call1_v4 : TRef sig ⟨S6x88x11520, .f32⟩) (.of main_call1_v2 : TRef sig ⟨S6x88x11520, .f32⟩) (.of main_v37 : TRef sig ⟨S6x88x11520, .f32⟩) minimumf ]
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- The cast of the scales to eight bits. -/
abbrev ops4 : List (HloOp τ sig (Elt F)) :=
  [ unary main_v37 main_v38 (Host.convertf .fp8e4m3 : (⟨S6x88x11520, .f32⟩ : BufTy).Contents (Elt F) → (⟨S6x88x11520, .fp8e4m3⟩ : BufTy).Contents (Elt F)) ]
theorem ops4_sub : (ops4 : List (HloOp τ sig (Elt F))).Forall fun op => op.bufs ⊆ tcRefs τ sig := unary_bufs_sub ..

/-- All of them. -/
abbrev ops : List (HloOp τ sig (Elt F)) := List.flatten [ops0, ops1, ops2, ops3, ops4]

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_flatten.mp h with ⟨l, hl, hop⟩
  simp only [List.mem_cons, List.not_mem_nil, or_false] at hl
  rcases hl with rfl | rfl | rfl | rfl | rfl
  · exact List.forall_iff_forall_mem.mp ops0_sub op hop
  · exact List.forall_iff_forall_mem.mp ops1_sub op hop
  · exact List.forall_iff_forall_mem.mp ops2_sub op hop
  · exact List.forall_iff_forall_mem.mp ops3_sub op hop
  · exact List.forall_iff_forall_mem.mp ops4_sub op hop

variable (m : (ℓ : Loc nD τ sig) → Buf (Elt F) ℓ) (ρ : Dev nD → PrngReg)

/-- What the operations leave in a buffer. -/
abbrev V (c : Dev nD) (b : Ref sig .tc) : Buf (Elt F) ((c : Thread nD τ).loc b) := after ops (fun b => m (c, b)) b

theorem run_main : θ_run defs (onTc (τ := τ) (main (F := F))) ⟨m, fun _ => 0, ρ⟩ (fun r => ∀ (c : Dev nD) (b : Ref sig .tc), r.2.mem ((c.tc : Thread nD τ).loc b) = V m c b) :=
  run_seq scopedRefs_eq scopedSems_eq defs main (fun _ => ops) main_eq (fun _ => ops_sub) m ρ

theorem V_main_arg0 (c : Dev nD) : V m c main_arg0 = m ((c : Thread nD τ).loc main_arg0) :=
  after_of_forall_not_mem (b := Proc.devRef .tc main_arg0) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

theorem V_main_arg1 (c : Dev nD) : V m c main_arg1 = m ((c : Thread nD τ).loc main_arg1) :=
  after_of_forall_not_mem (b := Proc.devRef .tc main_arg1) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

theorem V_main_arg2 (c : Dev nD) : V m c main_arg2 = m ((c : Thread nD τ).loc main_arg2) :=
  after_of_forall_not_mem (b := Proc.devRef .tc main_arg2) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

theorem V_main_arg3 (c : Dev nD) : V m c main_arg3 = m ((c : Thread nD τ).loc main_arg3) :=
  after_of_forall_not_mem (b := Proc.devRef .tc main_arg3) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

/-- The reference runs, keeps its arguments and has no counter. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => ⟨(h c main_arg0).trans (V_main_arg0 m c), (h c main_arg1).trans (V_main_arg1 m c), (h c main_arg2).trans (V_main_arg2 m c), (h c main_arg3).trans (V_main_arg3 m c)⟩, Idealize.ShloMosaic.sem_eq_zero_of_no_sems (by decide) r.2⟩) (run_main m ρ)

end Cert.ScaleDyIdeal.Hand

end
-- ==== Proof.ScaleDy.lean ====
/-
  The reference of the scales on its values: the array of the scales and the tensor's scale, element by element.
-/
module

public import proofs.«01_k».proof.Proof.HostDy
public import proofs.«01_k».proof.Proof.Scale
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ScaleDyIdeal.Hand

open Cert.ScaleDyIdeal Cert.ScaleDyIdeal.Gen Cert.Scale Cert.Butterfly Idealize.ShloMosaic Idealize.ShloMosaic.TcCoe Idealize.SL.Sem
open scoped BigOperators

variable (m : (ℓ : Loc nD τ sig) → Buf (Elt Ideal) ℓ) (ρ : Dev nD → PrngReg)

/-- The last amaxes. -/
def hist (c : Dev nD) (k : Fin 24) : EReal := (m ((c.tc : Thread nD τ).loc main_arg3) : Vec Ideal S24 .f32) (ix1 k)

/-- The signs. -/
def signs (c : Dev nD) (n : Fin 16) : EReal := (m ((c.tc : Thread nD τ).loc main_arg1) : Vec Ideal S16 .f32) (ix1 n)

/-- The scale of block `r` of slice `b` in lane `l`. -/
def scaleAt (c : Dev nD) (b : Fin 6) (r : Fin 88) (l : Fin 11520) : EReal :=
  blockScale (hist m c) (signs m c) (fun n => (m ((c.tc : Thread nD τ).loc main_arg0) : Vec Ideal S6x1408x11520 .bf16) (ix3 b ⟨16 * r.val + n.val, by omega⟩ l))

/-- The array of the scales. -/
def scaleArr (c : Dev nD) : Vec Ideal S6x88x11520 .fp8e4m3 := fun i => scaleAt m c ⟨(i 0).val, (i 0).isLt⟩ ⟨(i 1).val, (i 1).isLt⟩ ⟨(i 2).val, (i 2).isLt⟩

/-- The array of the tensor's scale. -/
def tsArr (c : Dev nD) : Vec Ideal S1x1 .f32 := fun _ => tensorScale (hist m c)

set_option maxHeartbeats 2000000 in
theorem ts_at (c : Dev nD) (i : S1x1.Idx) : (V m c main_v27 : Vec Ideal S1x1 .f32) i = tensorScale (hist m c) := by
  unfold V
  after_reads_at
  rfl

/-- The reference's row of the transform is the transform's. -/
theorem row_eq (r : Fin 88) (x : Fin 16) (u : Fin 1408 → EReal) (g : Fin 16 → EReal) (cf : ℕ → Fin 16 → EReal) (q : EReal) (hcf : ∀ k : Fin 16, cf x.val k = (sgn x k : EReal))
    (h : ∀ y : Fin 16, (r.val * 16 + x.val) / 16 * 16 + y.val < 1408) :
    (∑ y : Fin 16, u ⟨(r.val * 16 + x.val) / 16 * 16 + y.val, h y⟩ * (cf ((r.val * 16 + x.val) % 16) y * g y * q))
      = ∑ y : Fin 16, (sgn x y : EReal) * (u ⟨16 * r.val + y.val, by omega⟩ * (g y * q)) := by
  refine Finset.sum_congr rfl fun y _ => ?_
  have e1 : (r.val * 16 + x.val) % 16 = x.val := by omega
  have e2 : (⟨(r.val * 16 + x.val) / 16 * 16 + y.val, h y⟩ : Fin 1408) = ⟨16 * r.val + y.val, by omega⟩ := Fin.ext (by show (r.val * 16 + x.val) / 16 * 16 + y.val = 16 * r.val + y.val; omega)
  rw [e1, e2, hcf, mul_assoc (sgn x y : EReal)]
  exact mul_left_comm _ _ _

set_option maxHeartbeats 2000000 in
theorem scale_at (c : Dev nD) (b : Fin 6) (r : Fin 88) (l : Fin 11520) : (V m c main_v37 : Vec Ideal S6x88x11520 .f32) (ix3 b r l) = scaleAt m c b r l := by
  unfold V
  after_reads_at
  refine congrArg (fun a => clipped a (tensorScale (hist m c))) ?_
  unfold peak
  refine congrArg (fun f : Fin 16 → EReal => Finset.fold max (Ideal.ofBits .f32 4286578688#32) f Finset.univ) (funext fun x => congrArg mag ?_)
  exact row_eq r x (fun s => (m ((c.tc : Thread nD τ).loc main_arg0) : Vec Ideal S6x1408x11520 .bf16) (ix3 b s l)) (signs m c)
    (fun a k => (FloatOps.sitofp (F := Ideal) .f32 (IntOp.subi 1#32 (IntOp.muli 2#32 (IntOp.andi (IntOp.ctpop (IntOp.andi (BitVec.ofNat 32 a) (BitVec.ofNat 32 k.val))) 1#32))) : EReal))
    (Ideal.ofBits .f32 1048576000#32) (fun k => coef x k) (fun y => by omega)

/-- The array of the scales: the cast to eight bits changes nothing over the reals. -/
theorem cast_at (c : Dev nD) (i : S6x88x11520.Idx) : (V m c main_v38 : Vec Ideal S6x88x11520 .fp8e4m3) i = (V m c main_v37 : Vec Ideal S6x88x11520 .f32) i := by
  unfold V
  after_reads_at

theorem scales_final (c : Dev nD) : (V m c main_v38 : Vec Ideal S6x88x11520 .fp8e4m3) = scaleArr m c := by
  funext i
  have h0 : (i 0).val < 6 := (i 0).isLt
  have h1 : (i 1).val < 88 := (i 1).isLt
  have h2 : (i 2).val < 11520 := (i 2).isLt
  refine (cast_at m c i).trans (Eq.trans (b := (V m c main_v37 : Vec Ideal S6x88x11520 .f32) (ix3 ⟨(i 0).val, h0⟩ ⟨(i 1).val, h1⟩ ⟨(i 2).val, h2⟩))
    (congrArg (V m c main_v37 : Vec Ideal S6x88x11520 .f32) (funext fun a => Fin.ext ?_)) (scale_at m c _ _ _))
  fin_cases a <;> rfl

/-- The reference's run: the scales, the tensor's scale, and its arguments as launched. -/
theorem value_run : θ_run defs (onTc (τ := τ) (main (F := Ideal))) ⟨m, fun _ => 0, ρ⟩ (fun r => ∀ c : Dev nD,
    r.2.mem ((c.tc : Thread nD τ).loc main_v38) = scaleArr m c ∧ r.2.mem ((c.tc : Thread nD τ).loc main_v27) = tsArr m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h => fun c => ⟨(h c main_v38).trans (scales_final m c), (h c main_v27).trans (funext fun i => ts_at m c i), (h c main_arg0).trans (V_main_arg0 m c), (h c main_arg1).trans (V_main_arg1 m c), (h c main_arg2).trans (V_main_arg2 m c), (h c main_arg3).trans (V_main_arg3 m c)⟩) (run_main m ρ)

end Cert.ScaleDyIdeal.Hand

end
-- ==== Proof.FrameX.lean ====
module

public import proofs.«01_k».proof.Defs
public import proofs.«01_k».proof.Proof.Gen.QuantX.Frame
public import proofs.«01_k».proof.Proof.Gen.QuantX.Loops
public import Idealize.ShloMosaic.Lib.Exec

@[expose] public section

set_option maxRecDepth 16384

noncomputable section

namespace Cert.QuantX.Hand

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- A memref's buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Every operand held whole at some contents: what each trip is given and leaves. -/
def held (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole)  : sProp 𝕄 :=
  iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f))

set_option maxHeartbeats 4000000 in
theorem trip (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) (k0_t1 : Fin k0_t1_loop.trips) (acc : Unit) :
    held (F := F) c i arg2 harg2 arg3 harg3 arg4 harg4 arg5 harg5 arg6 harg6 arg7 harg7 arg8 harg8 arg9 harg9 arg10 harg10 arg11 harg11
      ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 k0_t1 acc)
        (fun _ => held (F := F) c i arg2 harg2 arg3 harg3 arg4 harg4 arg5 harg5 arg6 harg6 arg7 harg7 arg8 harg8 arg9 harg9 arg10 harg10 arg11 harg11) := by
  unfold held k0_t1_body
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_exec_parts
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

@[reducible, sl_loop] def loopInv (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 where
  inv := fun _ _ => held (F := F) c i arg2 harg2 arg3 harg3 arg4 harg4 arg5 harg5 arg6 harg6 arg7 harg7 arg8 harg8 arg9 harg9 arg10 harg10 arg11 harg11
  step := fun k acc => trip (F := F) c i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 k acc

set_option maxHeartbeats 4000000 in
theorem kernelRun (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (K : PUnit → sProp 𝕄) :
    iprop(held (F := F) c i arg2 harg2 arg3 harg3 arg4 harg4 arg5 harg5 arg6 harg6 arg7 harg7 arg8 harg8 arg9 harg9 arg10 harg10 arg11 harg11 ∗ (held (F := F) c i arg2 harg2 arg3 harg3 arg4 harg4 arg5 harg5 arg6 harg6 arg7 harg7 arg8 harg8 arg9 harg9 arg10 harg10 arg11 harg11 -∗ K ⟨⟩))
      ⊢ wp frame (wpE (defs₀ (F := F)) Variants.none c none) Set.univ (cc0_quant_x (F := F) i arg2 harg2 arg3 harg3 arg4 harg4 arg5 harg5 arg6 harg6 arg7 harg7 arg8 harg8 arg9 harg9 arg10 harg10 arg11 harg11) K := by
  iintro ⟨HH, Hk⟩
  ihave HH' := (Entails.of_eq (held.eq_1 (F := F) c i arg2 harg2 arg3 harg3 arg4 harg4 arg5 harg5 arg6 harg6 arg7 harg7 arg8 harg8 arg9 harg9 arg10 harg10 arg11 harg11)) $$ HH
  icases HH' with ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  by_cases h0 : Scalar.cmpi .ne (Scalar.extui (Scalar.andi (Scalar.cmpi .eq (BitVec.ofNat 32 (i 0).val) 0#32) (Scalar.cmpi .eq (BitVec.ofNat 32 (i 1).val) 0#32))) (0#32 : BitVec 32) = 1#1
  all_goals
    sl_exec_parts
    sl_step
    iapply Hk
    unfold held
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

variable (m : (ℓ : Loc nD τ sig) → Buf (Elt F) ℓ) (ρ : Dev nD → PrngReg)

/-- Nothing is said of what the body leaves in a staging buffer: no memory operation depends on it. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- What the body may use besides the windows: the two scratch arrays at some contents, and the register. -/
theorem phi_eq (c : Dev nD) (t) : (rdat m c).Φ t
    = iprop(((∃ f, pt c (Memref.whole cc0_scratch0) f) ∗ (∃ f, pt c (Memref.whole cc0_scratch1) f)) ∗ (∃ r, prngReg c r)) := by
  show Pipeline.ΦA spec0 c = _
  unfold Pipeline.ΦA
  rw [scopedRest0_eq]

/-- The body's triple, every window's staging buffer owned at some contents. -/
theorem kernelRun' (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, pt c arg10 f) ∗ (∃ f, pt c arg11 f) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, pt c arg10 f) ∗ (∃ f, pt c arg11 f)) -∗ K ⟨⟩))
      ⊢ wp frame (wpE (defs₀ (F := F)) Variants.none c none) Set.univ (cc0_quant_x (F := F) i arg2 harg2 arg3 harg3 arg4 harg4 arg5 harg5 arg6 harg6 arg7 harg7 arg8 harg8 arg9 harg9 arg10 harg10 arg11 harg11) K := by
  have e (sp : Space) (S : Shape) (el : EltTy) (M : Memref sig .tc sp S el) (h : M.IsWhole) :
      (iprop(∃ d, owns (c : Thread nD τ) M fullShare d) : sProp 𝕄) = iprop(∃ f, pt c M f) := Memref.IsWhole.exists_owns_eq h fullShare
  have k := kernelRun (F := F) c i arg2 harg2 arg3 harg3 arg4 harg4 arg5 harg5 arg6 harg6 arg7 harg7 arg8 harg8 arg9 harg9 arg10 harg10 arg11 harg11 K
  unfold held at k
  rw [e _ _ _ arg2 harg2, e _ _ _ arg3 harg3, e _ _ _ arg4 harg4, e _ _ _ arg5 harg5, e _ _ _ arg6 harg6, e _ _ _ arg7 harg7, e _ _ _ arg8 harg8, e _ _ _ arg9 harg9]
  refine .trans ?_ k
  iintro ⟨H0, H1, H2, H3, H4, H5, H6, H7, HS0, HS1, Hk⟩
  isplitr [Hk]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iexact Hk

theorem body_obligation (c : Dev nD) : (rdat m c).BodyObligation (defs₀ (F := F)) Variants.none () Set.univ := by
  intro t Y hY
  rw [bigSep_W0, bigSep_W0, defs₀_row, phi_eq, phi_eq]
  unfold bodyAt0
  iintro ⟨⟨⟨HS0, HS1⟩, Hg⟩, HO, H0, H1, H2, H3, H4, H5, H6, H7⟩
  iapply (kernelRun' (F := F) c (grid0.coords t) _ _ _ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨⟨%g0, H0⟩, ⟨%g1, H1⟩, ⟨%g2, H2⟩, ⟨%g3, H3⟩, ⟨%g4, H4⟩, ⟨%g5, H5⟩, ⟨%g6, H6⟩, ⟨%g7, H7⟩, HS0, HS1⟩
  isplitl [HS0 HS1 Hg]
  · isplitl [HS0 HS1]
    · isplitl [HS0]; · iexact HS0
      iexact HS1
    iexact Hg
  isplitl [HO]; · iexact HO
  isplitl [H0]
  · iexists g0; isplitr; · ipureintro; trivial
    iexact H0
  isplitl [H1]
  · iexists g1; isplitr; · ipureintro; trivial
    iexact H1
  isplitl [H2]
  · iexists g2; isplitr; · ipureintro; trivial
    iexact H2
  isplitl [H3]
  · iexists g3; isplitr; · ipureintro; trivial
    iexact H3
  isplitl [H4]
  · iexists g4; isplitr; · ipureintro; trivial
    iexact H4
  isplitl [H5]
  · iexists g5; isplitr; · ipureintro; trivial
    iexact H5
  isplitl [H6]
  · iexists g6; isplitr; · ipureintro; trivial
    iexact H6
  iexists g7; isplitr; · ipureintro; trivial
  iexact H7

set_option backward.isDefEq.respectTransparency.types false in
theorem run_main :
    θ_run defs (onTc (τ := τ) (main (F := F))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

theorem frame_run : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => ⟨(h.1.arr_in c 2 rfl).trans (V_main_arg0 m c), (h.1.arr_in c 0 rfl).trans (V_main_arg1 m c), ((h.1 c).2 main_arg2 (Pipeline.mem_restRefs_of main_arg2 (by decide) (by decide))).trans (V_main_arg2 m c)⟩, h.2⟩) (run_main m ρ)

end Cert.QuantX.Hand

end
-- ==== Proof.FrameXI.lean ====
module

public import proofs.«01_k».proof.Defs
public import proofs.«01_k».proof.Proof.Gen.QuantXIdeal.Frame
public import proofs.«01_k».proof.Proof.Gen.QuantXIdeal.Loops
public import Idealize.ShloMosaic.Lib.Exec

@[expose] public section

set_option maxRecDepth 16384

noncomputable section

namespace Cert.QuantXIdeal.Hand

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A memref's buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Every operand held whole at some contents: what each trip is given and leaves. -/
def held (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole)  : sProp 𝕄 :=
  iprop((∃ f, pt c arg2 f) ∗ (∃ f, pt c arg3 f) ∗ (∃ f, pt c arg4 f) ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f))

set_option maxHeartbeats 4000000 in
theorem trip (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec F S8x128 .f32) (v22 : F .f32) (v24 : F .f32) (v26 : F .f32) (v28 : F .f32) (v30 : F .f32) (v32 : F .f32) (v33 : Elt F .f32) (v35 : Elt F .f32) (v37 : Elt F .f32) (v39 : Elt F .f32) (v41 : Elt F .f32) (v43 : Elt F .f32) (v45 : Elt F .f32) (v47 : Elt F .f32) (v49 : Elt F .f32) (v51 : Elt F .f32) (v54 : BitVec 32) (v55 : IVec S8x128 32) (k0_t1 : Fin k0_t1_loop.trips) (acc : Unit) :
    held (F := F) c i arg2 harg2 arg3 harg3 arg4 harg4 arg5 harg5 arg6 harg6 arg7 harg7 arg8 harg8 arg9 harg9 arg10 harg10 arg11 harg11
      ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 k0_t1 acc)
        (fun _ => held (F := F) c i arg2 harg2 arg3 harg3 arg4 harg4 arg5 harg5 arg6 harg6 arg7 harg7 arg8 harg8 arg9 harg9 arg10 harg10 arg11 harg11) := by
  unfold held k0_t1_body
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  sl_exec_parts
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

theorem defs₀_row (t : Fin cfg0.N) : defs₀ (F := F) .tc cfg0.body (cfg0.bodyArgs t (cfg0.slots t)) = bodyAt0 t := by
  unfold defs₀; rw [Defs.onTc_tc]

end Cert.QuantXIdeal.Hand

end
-- ==== Proof.BlockX.lean ====
/-
  One trip of the loop of `QuantXIdeal` read off its own steps: the scales it stores are the clipped peaks of its blocks.
-/
module

public import proofs.«01_k».proof.Proof.FrameXI
public import proofs.«01_k».proof.Proof.Butterfly
public import proofs.«01_k».proof.Proof.Words
public import proofs.«01_k».proof.Proof.Scale

@[expose] public section

set_option maxRecDepth 16384

noncomputable section

namespace Cert.QuantXIdeal.Hand

open Cert.QuantXIdeal Cert.QuantXIdeal.Gen Cert.Butterfly Cert.Scale
open Idealize.ShloMosaic Idealize.ShloMosaic.TcCoe Idealize.ShloMosaic.Tactic

variable (c : Dev nD) (arg4 : Memref sig .tc .vmem S1x1408x128 .bf16) (harg4 : arg4.IsWhole) (v20 : FVec Ideal S8x128 .f32)
  (v22 v24 v26 v28 v30 v32 v33 v35 v37 v39 v41 v43 v45 v47 v49 v51 : EReal) (k : Fin k0_t1_loop.trips) (f4 : Buf (Elt Ideal) (View.loc (c : Thread nD τ) arg4.view))

/-- The sixteen signed tokens of a block as the body holds them, before the butterfly. -/
def leaf (j : S8x128.Idx) : ℕ → EReal
  | 0 => trip.sl.r (F := Ideal) c arg4 harg4 v22 k f4 j
  | 1 => trip.sl.r_1 (F := Ideal) c arg4 harg4 v24 k f4 j
  | 2 => trip.sl.r_2 (F := Ideal) c arg4 harg4 v26 k f4 j
  | 3 => trip.sl.r_3 (F := Ideal) c arg4 harg4 v28 k f4 j
  | 4 => trip.sl.r_5 (F := Ideal) c arg4 harg4 v30 k f4 j
  | 5 => trip.sl.r_6 (F := Ideal) c arg4 harg4 v32 k f4 j
  | 6 => trip.sl.r_7 (F := Ideal) c arg4 harg4 v33 k f4 j
  | 7 => trip.sl.r_8 (F := Ideal) c arg4 harg4 v35 k f4 j
  | 8 => trip.sl.r_9 (F := Ideal) c arg4 harg4 v37 k f4 j
  | 9 => trip.sl.r_10 (F := Ideal) c arg4 harg4 v39 k f4 j
  | 10 => trip.sl.r_12 (F := Ideal) c arg4 harg4 v41 k f4 j
  | 11 => k0_pay16 (F := Ideal) (k0_pay216 (F := Ideal) v43) (trip.sl.r_11 (F := Ideal) c arg4 harg4 k f4) j
  | 12 => k0_pay17 (F := Ideal) (k0_pay217 (F := Ideal) v45) (trip.sl.v162_raw (F := Ideal) c arg4 harg4 k f4) j
  | 13 => k0_pay18 (F := Ideal) (k0_pay218 (F := Ideal) v47) (trip.sl.v162_raw (F := Ideal) c arg4 harg4 k f4) j
  | 14 => k0_pay19 (F := Ideal) (k0_pay219 (F := Ideal) v49) (trip.sl.v177_raw (F := Ideal) c arg4 harg4 k f4) j
  | 15 => k0_pay20 (F := Ideal) (k0_pay220 (F := Ideal) v51) (trip.sl.v177_raw (F := Ideal) c arg4 harg4 k f4) j
  | _ => 0

set_option maxHeartbeats 4000000 in
theorem peak_eq (j : S8x128.Idx) : trip.sl.r_57 (F := Ideal) c arg4 harg4 v22 v24 v26 v28 v30 v32 v33 v35 v37 v39 v41 v43 v45 v47 v49 v51 k f4 j = peak (fun n => leaf c arg4 harg4 v22 v24 v26 v28 v30 v32 v33 v35 v37 v39 v41 v43 v45 v47 v49 v51 k f4 j n.val) := by
  rw [← treeMax_eq]
  unfold treeMax
  simp only [value_0, value_1, value_2, value_3, value_4, value_5, value_6, value_7, value_8, value_9, value_10, value_11, value_12, value_13, value_14, value_15]
  rfl

theorem numel_words : (⟨4, ![1, 704, 2, 128]⟩ : Shape).numel = (⟨3, ![1, 1408, 128]⟩ : Shape).numel := by decide

theorem trips (k : Fin k0_t1_loop.trips) : k.val < 11 := by
  have : k0_t1_loop.trips = 11 := by decide
  omega

/-- The token `n` of the block in row `s` of the trip `k`, in lane `l`. -/
def token (s : Fin 8) (l : Fin 128) (n : Fin 16) : EReal :=
  arg4.view.read (Elt Ideal) f4 (ix3 0 ⟨128 * k.val + 16 * s.val + n.val, by have := trips k; omega⟩ l)

/-- The factor the token `n` of every block is taken with. -/
def factor : Fin 16 → EReal := ![v22, v24, v26, v28, v30, v32, k0_pay211 (F := Ideal) v33, k0_pay212 (F := Ideal) v35, k0_pay213 (F := Ideal) v37, k0_pay214 (F := Ideal) v39, k0_pay215 (F := Ideal) v41, k0_pay216 (F := Ideal) v43, k0_pay217 (F := Ideal) v45, k0_pay218 (F := Ideal) v47, k0_pay219 (F := Ideal) v49, k0_pay220 (F := Ideal) v51]

theorem k0_off1_eq : ∀ k : Fin k0_t1_loop.trips, k0_off1 k = ![0, 64 * k.val + 0, 0, 0] := by decide +kernel

theorem inb_0 : ∀ a, k0_off1 k a + (![1, 8, 1, 1] : Fin 4 → ℕ) a * ((![1, 8, 2, 128] : Fin 4 → ℕ) a - 1) < (![1, 704, 2, 128] : Fin 4 → ℕ) a := by
  rw [k0_off1_eq k]; have := trips k; intro a; fin_cases a <;> simp <;> omega

theorem leaf_0 (s : Fin 8) (l : Fin 128) : leaf c arg4 harg4 v22 v24 v26 v28 v30 v32 v33 v35 v37 v39 v41 v43 v45 v47 v49 v51 k f4 (ix2 s l) 0 = token c arg4 k f4 s l 0 * factor v22 v24 v26 v28 v30 v32 v33 v35 v37 v39 v41 v43 v45 v47 v49 v51 0 := by
  have e := Words.read_half arg4.view numel_words f4 (k0_off1 k) (64 * k.val + 0) (k0_off1_eq k) (fun a => .inr (inb_0 k a)) s 0 l ⟨128 * k.val + 16 * s.val + 0, by have := trips k; omega⟩
    (by show 128 * k.val + 16 * s.val + 0 = 2 * (64 * k.val + 0 + 8 * s.val) + 0; omega)
  refine Eq.trans ?_ (congrArg (· * (v22 : EReal)) e)
  beta_reduce
  unfold leaf
  unfold trip.sl.r trip.sl.v72_raw
  pointwise [k0_pay3]

theorem leaf_1 (s : Fin 8) (l : Fin 128) : leaf c arg4 harg4 v22 v24 v26 v28 v30 v32 v33 v35 v37 v39 v41 v43 v45 v47 v49 v51 k f4 (ix2 s l) 1 = token c arg4 k f4 s l 1 * factor v22 v24 v26 v28 v30 v32 v33 v35 v37 v39 v41 v43 v45 v47 v49 v51 1 := by
  have e := Words.read_half arg4.view numel_words f4 (k0_off1 k) (64 * k.val + 0) (k0_off1_eq k) (fun a => .inr (inb_0 k a)) s 1 l ⟨128 * k.val + 16 * s.val + 1, by have := trips k; omega⟩
    (by show 128 * k.val + 16 * s.val + 1 = 2 * (64 * k.val + 0 + 8 * s.val) + 1; omega)
  refine Eq.trans ?_ (congrArg (· * (v24 : EReal)) e)
  beta_reduce
  unfold leaf
  unfold trip.sl.r_1 trip.sl.v72_raw
  pointwise [k0_pay4]

theorem k0_off2_eq : ∀ k : Fin k0_t1_loop.trips, k0_off2 k = ![0, 64 * k.val + 1, 0, 0] := by decide +kernel

theorem inb_1 : ∀ a, k0_off2 k a + (![1, 8, 1, 1] : Fin 4 → ℕ) a * ((![1, 8, 2, 128] : Fin 4 → ℕ) a - 1) < (![1, 704, 2, 128] : Fin 4 → ℕ) a := by
  rw [k0_off2_eq k]; have := trips k; intro a; fin_cases a <;> simp <;> omega

theorem leaf_2 (s : Fin 8) (l : Fin 128) : leaf c arg4 harg4 v22 v24 v26 v28 v30 v32 v33 v35 v37 v39 v41 v43 v45 v47 v49 v51 k f4 (ix2 s l) 2 = token c arg4 k f4 s l 2 * factor v22 v24 v26 v28 v30 v32 v33 v35 v37 v39 v41 v43 v45 v47 v49 v51 2 := by
  have e := Words.read_half arg4.view numel_words f4 (k0_off2 k) (64 * k.val + 1) (k0_off2_eq k) (fun a => .inr (inb_1 k a)) s 0 l ⟨128 * k.val + 16 * s.val + 2, by have := trips k; omega⟩
    (by show 128 * k.val + 16 * s.val + 2 = 2 * (64 * k.val + 1 + 8 * s.val) + 0; omega)
  refine Eq.trans ?_ (congrArg (· * (v26 : EReal)) e)
  beta_reduce
  unfold leaf
  unfold trip.sl.r_2 trip.sl.v87_raw
  pointwise [k0_pay5]

theorem leaf_3 (s : Fin 8) (l : Fin 128) : leaf c arg4 harg4 v22 v24 v26 v28 v30 v32 v33 v35 v37 v39 v41 v43 v45 v47 v49 v51 k f4 (ix2 s l) 3 = token c arg4 k f4 s l 3 * factor v22 v24 v26 v28 v30 v32 v33 v35 v37 v39 v41 v43 v45 v47 v49 v51 3 := by
  have e := Words.read_half arg4.view numel_words f4 (k0_off2 k) (64 * k.val + 1) (k0_off2_eq k) (fun a => .inr (inb_1 k a)) s 1 l ⟨128 * k.val + 16 * s.val + 3, by have := trips k; omega⟩
    (by show 128 * k.val + 16 * s.val + 3 = 2 * (64 * k.val + 1 + 8 * s.val) + 1; omega)
  refine Eq.trans ?_ (congrArg (· * (v28 : EReal)) e)
  beta_reduce
  unfold leaf
  unfold trip.sl.r_3 trip.sl.v87_raw
  pointwise [k0_pay6]

theorem k0_off3_eq : ∀ k : Fin k0_t1_loop.trips, k0_off3 k = ![0, 64 * k.val + 2, 0, 0] := by decide +kernel

theorem inb_2 : ∀ a, k0_off3 k a + (![1, 8, 1, 1] : Fin 4 → ℕ) a * ((![1, 8, 2, 128] : Fin 4 → ℕ) a - 1) < (![1, 704, 2, 128] : Fin 4 → ℕ) a := by
  rw [k0_off3_eq k]; have := trips k; intro a; fin_cases a <;> simp <;> omega

theorem leaf_4 (s : Fin 8) (l : Fin 128) : leaf c arg4 harg4 v22 v24 v26 v28 v30 v32 v33 v35 v37 v39 v41 v43 v45 v47 v49 v51 k f4 (ix2 s l) 4 = token c arg4 k f4 s l 4 * factor v22 v24 v26 v28 v30 v32 v33 v35 v37 v39 v41 v43 v45 v47 v49 v51 4 := by
  have e := Words.read_half arg4.view numel_words f4 (k0_off3 k) (64 * k.val + 2) (k0_off3_eq k) (fun a => .inr (inb_2 k a)) s 0 l ⟨128 * k.val + 16 * s.val + 4, by have := trips k; omega⟩
    (by show 128 * k.val + 16 * s.val + 4 = 2 * (64 * k.val + 2 + 8 * s.val) + 0; omega)
  refine Eq.trans ?_ (congrArg (· * (v30 : EReal)) e)
  beta_reduce
  unfold leaf
  unfold trip.sl.r_5 trip.sl.v102_raw
  pointwise [k0_pay8]

theorem leaf_5 (s : Fin 8) (l : Fin 128) : leaf c arg4 harg4 v22 v24 v26 v28 v30 v32 v33 v35 v37 v39 v41 v43 v45 v47 v49 v51 k f4 (ix2 s l) 5 = token c arg4 k f4 s l 5 * factor v22 v24 v26 v28 v30 v32 v33 v35 v37 v39 v41 v43 v45 v47 v49 v51 5 := by
  have e := Words.read_half arg4.view numel_words f4 (k0_off3 k) (64 * k.val + 2) (k0_off3_eq k) (fun a => .inr (inb_2 k a)) s 1 l ⟨128 * k.val + 16 * s.val + 5, by have := trips k; omega⟩
    (by show 128 * k.val + 16 * s.val + 5 = 2 * (64 * k.val + 2 + 8 * s.val) + 1; omega)
  refine Eq.trans ?_ (congrArg (· * (v32 : EReal)) e)
  beta_reduce
  unfold leaf
  unfold trip.sl.r_6 trip.sl.r_4 trip.sl.v102_raw
  pointwise [k0_pay7, k0_pay9]

theorem k0_off4_eq : ∀ k : Fin k0_t1_loop.trips, k0_off4 k = ![0, 64 * k.val + 3, 0, 0] := by decide +kernel

theorem inb_3 : ∀ a, k0_off4 k a + (![1, 8, 1, 1] : Fin 4 → ℕ) a * ((![1, 8, 2, 128] : Fin 4 → ℕ) a - 1) < (![1, 704, 2, 128] : Fin 4 → ℕ) a := by
  rw [k0_off4_eq k]; have := trips k; intro a; fin_cases a <;> simp <;> omega

theorem leaf_6 (s : Fin 8) (l : Fin 128) : leaf c arg4 harg4 v22 v24 v26 v28 v30 v32 v33 v35 v37 v39 v41 v43 v45 v47 v49 v51 k f4 (ix2 s l) 6 = token c arg4 k f4 s l 6 * factor v22 v24 v26 v28 v30 v32 v33 v35 v37 v39 v41 v43 v45 v47 v49 v51 6 := by
  have e := Words.read_half arg4.view numel_words f4 (k0_off4 k) (64 * k.val + 3) (k0_off4_eq k) (fun a => .inr (inb_3 k a)) s 0 l ⟨128 * k.val + 16 * s.val + 6, by have := trips k; omega⟩
    (by show 128 * k.val + 16 * s.val + 6 = 2 * (64 * k.val + 3 + 8 * s.val) + 0; omega)
  refine Eq.trans ?_ (congrArg (· * (k0_pay211 (F := Ideal) v33 : EReal)) e)
  beta_reduce
  unfold leaf
  unfold trip.sl.r_7 trip.sl.v117_raw
  pointwise [k0_pay10]

theorem leaf_7 (s : Fin 8) (l : Fin 128) : leaf c arg4 harg4 v22 v24 v26 v28 v30 v32 v33 v35 v37 v39 v41 v43 v45 v47 v49 v51 k f4 (ix2 s l) 7 = token c arg4 k f4 s l 7 * factor v22 v24 v26 v28 v30 v32 v33 v35 v37 v39 v41 v43 v45 v47 v49 v51 7 := by
  have e := Words.read_half arg4.view numel_words f4 (k0_off4 k) (64 * k.val + 3) (k0_off4_eq k) (fun a => .inr (inb_3 k a)) s 1 l ⟨128 * k.val + 16 * s.val + 7, by have := trips k; omega⟩
    (by show 128 * k.val + 16 * s.val + 7 = 2 * (64 * k.val + 3 + 8 * s.val) + 1; omega)
  refine Eq.trans ?_ (congrArg (· * (k0_pay212 (F := Ideal) v35 : EReal)) e)
  beta_reduce
  unfold leaf
  unfold trip.sl.r_8 trip.sl.v117_raw
  pointwise [k0_pay11]

theorem k0_off5_eq : ∀ k : Fin k0_t1_loop.trips, k0_off5 k = ![0, 64 * k.val + 4, 0, 0] := by decide +kernel

theorem inb_4 : ∀ a, k0_off5 k a + (![1, 8, 1, 1] : Fin 4 → ℕ) a * ((![1, 8, 2, 128] : Fin 4 → ℕ) a - 1) < (![1, 704, 2, 128] : Fin 4 → ℕ) a := by
  rw [k0_off5_eq k]; have := trips k; intro a; fin_cases a <;> simp <;> omega

theorem leaf_8 (s : Fin 8) (l : Fin 128) : leaf c arg4 harg4 v22 v24 v26 v28 v30 v32 v33 v35 v37 v39 v41 v43 v45 v47 v49 v51 k f4 (ix2 s l) 8 = token c arg4 k f4 s l 8 * factor v22 v24 v26 v28 v30 v32 v33 v35 v37 v39 v41 v43 v45 v47 v49 v51 8 := by
  have e := Words.read_half arg4.view numel_words f4 (k0_off5 k) (64 * k.val + 4) (k0_off5_eq k) (fun a => .inr (inb_4 k a)) s 0 l ⟨128 * k.val + 16 * s.val + 8, by have := trips k; omega⟩
    (by show 128 * k.val + 16 * s.val + 8 = 2 * (64 * k.val + 4 + 8 * s.val) + 0; omega)
  refine Eq.trans ?_ (congrArg (· * (k0_pay213 (F := Ideal) v37 : EReal)) e)
  beta_reduce
  unfold leaf
  unfold trip.sl.r_9 trip.sl.v132_raw
  pointwise [k0_pay12]

theorem leaf_9 (s : Fin 8) (l : Fin 128) : leaf c arg4 harg4 v22 v24 v26 v28 v30 v32 v33 v35 v37 v39 v41 v43 v45 v47 v49 v51 k f4 (ix2 s l) 9 = token c arg4 k f4 s l 9 * factor v22 v24 v26 v28 v30 v32 v33 v35 v37 v39 v41 v43 v45 v47 v49 v51 9 := by
  have e := Words.read_half arg4.view numel_words f4 (k0_off5 k) (64 * k.val + 4) (k0_off5_eq k) (fun a => .inr (inb_4 k a)) s 1 l ⟨128 * k.val + 16 * s.val + 9, by have := trips k; omega⟩
    (by show 128 * k.val + 16 * s.val + 9 = 2 * (64 * k.val + 4 + 8 * s.val) + 1; omega)
  refine Eq.trans ?_ (congrArg (· * (k0_pay214 (F := Ideal) v39 : EReal)) e)
  beta_reduce
  unfold leaf
  unfold trip.sl.r_10 trip.sl.v132_raw
  pointwise [k0_pay13]

theorem k0_off6_eq : ∀ k : Fin k0_t1_loop.trips, k0_off6 k = ![0, 64 * k.val + 5, 0, 0] := by decide +kernel

theorem inb_5 : ∀ a, k0_off6 k a + (![1, 8, 1, 1] : Fin 4 → ℕ) a * ((![1, 8, 2, 128] : Fin 4 → ℕ) a - 1) < (![1, 704, 2, 128] : Fin 4 → ℕ) a := by
  rw [k0_off6_eq k]; have := trips k; intro a; fin_cases a <;> simp <;> omega

theorem leaf_10 (s : Fin 8) (l : Fin 128) : leaf c arg4 harg4 v22 v24 v26 v28 v30 v32 v33 v35 v37 v39 v41 v43 v45 v47 v49 v51 k f4 (ix2 s l) 10 = token c arg4 k f4 s l 10 * factor v22 v24 v26 v28 v30 v32 v33 v35 v37 v39 v41 v43 v45 v47 v49 v51 10 := by
  have e := Words.read_half arg4.view numel_words f4 (k0_off6 k) (64 * k.val + 5) (k0_off6_eq k) (fun a => .inr (inb_5 k a)) s 0 l ⟨128 * k.val + 16 * s.val + 10, by have := trips k; omega⟩
    (by show 128 * k.val + 16 * s.val + 10 = 2 * (64 * k.val + 5 + 8 * s.val) + 0; omega)
  refine Eq.trans ?_ (congrArg (· * (k0_pay215 (F := Ideal) v41 : EReal)) e)
  beta_reduce
  unfold leaf
  unfold trip.sl.r_12 trip.sl.v147_raw
  pointwise [k0_pay15]

theorem leaf_11 (s : Fin 8) (l : Fin 128) : leaf c arg4 harg4 v22 v24 v26 v28 v30 v32 v33 v35 v37 v39 v41 v43 v45 v47 v49 v51 k f4 (ix2 s l) 11 = token c arg4 k f4 s l 11 * factor v22 v24 v26 v28 v30 v32 v33 v35 v37 v39 v41 v43 v45 v47 v49 v51 11 := by
  have e := Words.read_half arg4.view numel_words f4 (k0_off6 k) (64 * k.val + 5) (k0_off6_eq k) (fun a => .inr (inb_5 k a)) s 1 l ⟨128 * k.val + 16 * s.val + 11, by have := trips k; omega⟩
    (by show 128 * k.val + 16 * s.val + 11 = 2 * (64 * k.val + 5 + 8 * s.val) + 1; omega)
  refine Eq.trans ?_ (congrArg (· * (k0_pay216 (F := Ideal) v43 : EReal)) e)
  beta_reduce
  unfold leaf
  unfold trip.sl.r_11 trip.sl.v147_raw
  pointwise [k0_pay14, k0_pay16]

theorem k0_off7_eq : ∀ k : Fin k0_t1_loop.trips, k0_off7 k = ![0, 64 * k.val + 6, 0, 0] := by decide +kernel

theorem inb_6 : ∀ a, k0_off7 k a + (![1, 8, 1, 1] : Fin 4 → ℕ) a * ((![1, 8, 2, 128] : Fin 4 → ℕ) a - 1) < (![1, 704, 2, 128] : Fin 4 → ℕ) a := by
  rw [k0_off7_eq k]; have := trips k; intro a; fin_cases a <;> simp <;> omega

theorem leaf_12 (s : Fin 8) (l : Fin 128) : leaf c arg4 harg4 v22 v24 v26 v28 v30 v32 v33 v35 v37 v39 v41 v43 v45 v47 v49 v51 k f4 (ix2 s l) 12 = token c arg4 k f4 s l 12 * factor v22 v24 v26 v28 v30 v32 v33 v35 v37 v39 v41 v43 v45 v47 v49 v51 12 := by
  have e := Words.read_half arg4.view numel_words f4 (k0_off7 k) (64 * k.val + 6) (k0_off7_eq k) (fun a => .inr (inb_6 k a)) s 0 l ⟨128 * k.val + 16 * s.val + 12, by have := trips k; omega⟩
    (by show 128 * k.val + 16 * s.val + 12 = 2 * (64 * k.val + 6 + 8 * s.val) + 0; omega)
  refine Eq.trans ?_ (congrArg (· * (k0_pay217 (F := Ideal) v45 : EReal)) e)
  beta_reduce
  unfold leaf
  unfold trip.sl.v162_raw
  pointwise [k0_pay17]

theorem leaf_13 (s : Fin 8) (l : Fin 128) : leaf c arg4 harg4 v22 v24 v26 v28 v30 v32 v33 v35 v37 v39 v41 v43 v45 v47 v49 v51 k f4 (ix2 s l) 13 = token c arg4 k f4 s l 13 * factor v22 v24 v26 v28 v30 v32 v33 v35 v37 v39 v41 v43 v45 v47 v49 v51 13 := by
  have e := Words.read_half arg4.view numel_words f4 (k0_off7 k) (64 * k.val + 6) (k0_off7_eq k) (fun a => .inr (inb_6 k a)) s 1 l ⟨128 * k.val + 16 * s.val + 13, by have := trips k; omega⟩
    (by show 128 * k.val + 16 * s.val + 13 = 2 * (64 * k.val + 6 + 8 * s.val) + 1; omega)
  refine Eq.trans ?_ (congrArg (· * (k0_pay218 (F := Ideal) v47 : EReal)) e)
  beta_reduce
  unfold leaf
  unfold trip.sl.v162_raw
  pointwise [k0_pay18]

theorem k0_off8_eq : ∀ k : Fin k0_t1_loop.trips, k0_off8 k = ![0, 64 * k.val + 7, 0, 0] := by decide +kernel

theorem inb_7 : ∀ a, k0_off8 k a + (![1, 8, 1, 1] : Fin 4 → ℕ) a * ((![1, 8, 2, 128] : Fin 4 → ℕ) a - 1) < (![1, 704, 2, 128] : Fin 4 → ℕ) a := by
  rw [k0_off8_eq k]; have := trips k; intro a; fin_cases a <;> simp <;> omega

theorem leaf_14 (s : Fin 8) (l : Fin 128) : leaf c arg4 harg4 v22 v24 v26 v28 v30 v32 v33 v35 v37 v39 v41 v43 v45 v47 v49 v51 k f4 (ix2 s l) 14 = token c arg4 k f4 s l 14 * factor v22 v24 v26 v28 v30 v32 v33 v35 v37 v39 v41 v43 v45 v47 v49 v51 14 := by
  have e := Words.read_half arg4.view numel_words f4 (k0_off8 k) (64 * k.val + 7) (k0_off8_eq k) (fun a => .inr (inb_7 k a)) s 0 l ⟨128 * k.val + 16 * s.val + 14, by have := trips k; omega⟩
    (by show 128 * k.val + 16 * s.val + 14 = 2 * (64 * k.val + 7 + 8 * s.val) + 0; omega)
  refine Eq.trans ?_ (congrArg (· * (k0_pay219 (F := Ideal) v49 : EReal)) e)
  beta_reduce
  unfold leaf
  unfold trip.sl.v177_raw
  pointwise [k0_pay19]

theorem leaf_15 (s : Fin 8) (l : Fin 128) : leaf c arg4 harg4 v22 v24 v26 v28 v30 v32 v33 v35 v37 v39 v41 v43 v45 v47 v49 v51 k f4 (ix2 s l) 15 = token c arg4 k f4 s l 15 * factor v22 v24 v26 v28 v30 v32 v33 v35 v37 v39 v41 v43 v45 v47 v49 v51 15 := by
  have e := Words.read_half arg4.view numel_words f4 (k0_off8 k) (64 * k.val + 7) (k0_off8_eq k) (fun a => .inr (inb_7 k a)) s 1 l ⟨128 * k.val + 16 * s.val + 15, by have := trips k; omega⟩
    (by show 128 * k.val + 16 * s.val + 15 = 2 * (64 * k.val + 7 + 8 * s.val) + 1; omega)
  refine Eq.trans ?_ (congrArg (· * (k0_pay220 (F := Ideal) v51 : EReal)) e)
  beta_reduce
  unfold leaf
  unfold trip.sl.v177_raw
  pointwise [k0_pay20]

theorem leaf_eq (s : Fin 8) (l : Fin 128) (n : Fin 16) : leaf c arg4 harg4 v22 v24 v26 v28 v30 v32 v33 v35 v37 v39 v41 v43 v45 v47 v49 v51 k f4 (ix2 s l) n.val = token c arg4 k f4 s l n * factor v22 v24 v26 v28 v30 v32 v33 v35 v37 v39 v41 v43 v45 v47 v49 v51 n := by
  obtain ⟨i, hi⟩ := n
  match i, hi with
  | 0, _ => exact leaf_0 c arg4 harg4 v22 v24 v26 v28 v30 v32 v33 v35 v37 v39 v41 v43 v45 v47 v49 v51 k f4 s l
  | 1, _ => exact leaf_1 c arg4 harg4 v22 v24 v26 v28 v30 v32 v33 v35 v37 v39 v41 v43 v45 v47 v49 v51 k f4 s l
  | 2, _ => exact leaf_2 c arg4 harg4 v22 v24 v26 v28 v30 v32 v33 v35 v37 v39 v41 v43 v45 v47 v49 v51 k f4 s l
  | 3, _ => exact leaf_3 c arg4 harg4 v22 v24 v26 v28 v30 v32 v33 v35 v37 v39 v41 v43 v45 v47 v49 v51 k f4 s l
  | 4, _ => exact leaf_4 c arg4 harg4 v22 v24 v26 v28 v30 v32 v33 v35 v37 v39 v41 v43 v45 v47 v49 v51 k f4 s l
  | 5, _ => exact leaf_5 c arg4 harg4 v22 v24 v26 v28 v30 v32 v33 v35 v37 v39 v41 v43 v45 v47 v49 v51 k f4 s l
  | 6, _ => exact leaf_6 c arg4 harg4 v22 v24 v26 v28 v30 v32 v33 v35 v37 v39 v41 v43 v45 v47 v49 v51 k f4 s l
  | 7, _ => exact leaf_7 c arg4 harg4 v22 v24 v26 v28 v30 v32 v33 v35 v37 v39 v41 v43 v45 v47 v49 v51 k f4 s l
  | 8, _ => exact leaf_8 c arg4 harg4 v22 v24 v26 v28 v30 v32 v33 v35 v37 v39 v41 v43 v45 v47 v49 v51 k f4 s l
  | 9, _ => exact leaf_9 c arg4 harg4 v22 v24 v26 v28 v30 v32 v33 v35 v37 v39 v41 v43 v45 v47 v49 v51 k f4 s l
  | 10, _ => exact leaf_10 c arg4 harg4 v22 v24 v26 v28 v30 v32 v33 v35 v37 v39 v41 v43 v45 v47 v49 v51 k f4 s l
  | 11, _ => exact leaf_11 c arg4 harg4 v22 v24 v26 v28 v30 v32 v33 v35 v37 v39 v41 v43 v45 v47 v49 v51 k f4 s l
  | 12, _ => exact leaf_12 c arg4 harg4 v22 v24 v26 v28 v30 v32 v33 v35 v37 v39 v41 v43 v45 v47 v49 v51 k f4 s l
  | 13, _ => exact leaf_13 c arg4 harg4 v22 v24 v26 v28 v30 v32 v33 v35 v37 v39 v41 v43 v45 v47 v49 v51 k f4 s l
  | 14, _ => exact leaf_14 c arg4 harg4 v22 v24 v26 v28 v30 v32 v33 v35 v37 v39 v41 v43 v45 v47 v49 v51 k f4 s l
  | 15, _ => exact leaf_15 c arg4 harg4 v22 v24 v26 v28 v30 v32 v33 v35 v37 v39 v41 v43 v45 v47 v49 v51 k f4 s l
  | i + 16, hi => exact absurd hi (by omega)

/-- What a trip stores of the scales: for each block its clipped peak, the steps that round it being the identity on real numbers. -/
theorem stored_eq (s : Fin 8) (l : Fin 128) :
    k0_pay200 (trip.sl.r_58 (F := Ideal) c arg4 harg4 v20 v22 v24 v26 v28 v30 v32 v33 v35 v37 v39 v41 v43 v45 v47 v49 v51 k f4) (ix2 s l)
      = clipped (peak (fun n => token c arg4 k f4 s l n * factor v22 v24 v26 v28 v30 v32 v33 v35 v37 v39 v41 v43 v45 v47 v49 v51 n)) (v20 (ix2 s l)) := by
  have e := peak_eq c arg4 harg4 v22 v24 v26 v28 v30 v32 v33 v35 v37 v39 v41 v43 v45 v47 v49 v51 k f4 (ix2 s l)
  rw [show (fun n : Fin 16 => leaf c arg4 harg4 v22 v24 v26 v28 v30 v32 v33 v35 v37 v39 v41 v43 v45 v47 v49 v51 k f4 (ix2 s l) n.val) = (fun n => token c arg4 k f4 s l n * factor v22 v24 v26 v28 v30 v32 v33 v35 v37 v39 v41 v43 v45 v47 v49 v51 n) from
    funext fun n => leaf_eq c arg4 harg4 v22 v24 v26 v28 v30 v32 v33 v35 v37 v39 v41 v43 v45 v47 v49 v51 k f4 s l n] at e
  rw [← e, ← round_trip]
  unfold trip.sl.r_58 trip.sl.r_57 clipped
  pointwise [k0_pay200, k0_pay98]

end Cert.QuantXIdeal.Hand

end
-- ==== Proof.ValueX.lean ====
module

public import proofs.«01_k».proof.Proof.BlockX
public import Idealize.ShloMosaic.Lib.WritesUnit
public import Idealize.ShloMosaic.Lib.VecWindow
public import Idealize.ShloMosaic.Lib.Pointwise

@[expose] public section

set_option maxRecDepth 16384

noncomputable section

namespace Cert.QuantXIdeal.Hand

open Cert.QuantXIdeal Cert.QuantXIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The scale of the block `r` of a tile in lane `l`: the tile at `f4`, the factors and the tensor's scale as the body holds them. -/
def rowScale (c : Dev nD) (arg4 : Memref sig .tc .vmem S1x1408x128 .bf16) (v20 : FVec Ideal S8x128 .f32) (v22 v24 v26 v28 v30 v32 v33 v35 v37 v39 v41 v43 v45 v47 v49 v51 : EReal)
    (f4 : Buf (Elt Ideal) (View.loc (c : Thread nD τ) arg4.view)) (r : Fin 88) (l : Fin 128) : EReal :=
  clipped (peak fun n => (arg4.view.read (Elt Ideal) f4 (ix3 0 ⟨16 * r.val + n.val, by omega⟩ l) : EReal) * factor v22 v24 v26 v28 v30 v32 v33 v35 v37 v39 v41 v43 v45 v47 v49 v51 n) (v20 (ix2 ⟨r.val % 8, by omega⟩ l))

/-- After `k` trips the scratch of the scales holds the scales of the first `8 k` blocks. -/
def Rows (c : Dev nD) (arg4 : Memref sig .tc .vmem S1x1408x128 .bf16) (arg10 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : ℕ) (f : Buf (Elt Ideal) (View.loc (c : Thread nD τ) arg10.view)) : Prop :=
  ∀ (r : Fin 88) (l : Fin 128), r.val < 8 * k → arg10.view.read (Elt Ideal) f (ix2 r l) = rowScale c arg4 v20 v22 v24 v26 v28 v30 v32 v33 v35 v37 v39 v41 v43 v45 v47 v49 v51 f4 r l

theorem k0_off9_eq : ∀ k : Fin k0_t1_loop.trips, k0_off9 k = ![8 * k.val, 0] := by decide +kernel

/-- A trip's store adds its eight rows to the scales found so far. -/
theorem rows_step (c : Dev nD) (arg4 : Memref sig .tc .vmem S1x1408x128 .bf16) (arg10 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : Fin k0_t1_loop.trips) (f : Buf (Elt Ideal) (View.loc (c : Thread nD τ) arg10.view))
    (inb) (p : FVec Ideal S8x128 .f32) (hp : ∀ s l, p (ix2 s l) = clipped (peak (fun n => token c arg4 k f4 s l n * factor v22 v24 v26 v28 v30 v32 v33 v35 v37 v39 v41 v43 v45 v47 v49 v51 n)) (v20 (ix2 s l)))
    (h : Rows c arg4 arg10 v20 v22 v24 v26 v28 v30 v32 v33 v35 v37 v39 v41 v43 v45 v47 v49 v51 f4 k.val f) :
    Rows c arg4 arg10 v20 v22 v24 v26 v28 v30 v32 v33 v35 v37 v39 v41 v43 v45 v47 v49 v51 f4 (k.val + 1) (arg10.view.writes (Elt Ideal) f [⟨Rect.unit (s := S88x128) (k0_off9 k) S8x128.size inb, p⟩]) := by
  intro r l hr
  by_cases hk : r.val < 8 * k.val
  · exact (View.read_writes_cons_rows_of_not_mem (d := ![88, 128]) (o := 8 * k.val) (W := 8) arg10.view f inb p [] (ix2 r l) (k0_off9_eq k) rfl (.inl hk)).trans
      (h r l hk)
  · refine (View.read_writes_cons_rows_of_mem (d := ![88, 128]) (o := 8 * k.val) arg10.view f inb p [] (ix2 r l) (ix2 ⟨r.val - 8 * k.val, by omega⟩ l) (k0_off9_eq k)
      (by show r.val = 8 * k.val + (r.val - 8 * k.val); omega) rfl).trans ?_
    refine (hp _ _).trans ?_
    unfold rowScale token
    have e : ∀ n : Fin 16, 128 * k.val + 16 * (r.val - 8 * k.val) + n.val = 16 * r.val + n.val := fun n => by omega
    have e8 : (⟨r.val - 8 * k.val, by omega⟩ : Fin 8) = ⟨r.val % 8, by omega⟩ := Fin.ext (by show r.val - 8 * k.val = r.val % 8; omega)
    simp only [e]
    exact congrArg (fun i : Fin 8 => clipped _ (v20 (ix2 i l))) e8

/-- `Rows` at a count of trips; nothing is said before the first trip. -/
def RowsAt (c : Dev nD) (arg4 : Memref sig .tc .vmem S1x1408x128 .bf16) (arg10 : Memref sig .tc .vmem S88x128 .f32) (v20 : FVec Ideal S8x128 .f32) (v22 v24 v26 v28 v30 v32 v33 v35 v37 v39 v41 v43 v45 v47 v49 v51 : EReal)
    (f4 : Buf (Elt Ideal) (View.loc (c : Thread nD τ) arg4.view)) (k : ℕ) (f : Buf (Elt Ideal) (View.loc (c : Thread nD τ) arg10.view)) : Prop :=
  match k with
  | 0 => True
  | k + 1 => Rows c arg4 arg10 v20 v22 v24 v26 v28 v30 v32 v33 v35 v37 v39 v41 v43 v45 v47 v49 v51 f4 (k + 1) f

theorem RowsAt.rows {c : Dev nD} {arg4 : Memref sig .tc .vmem S1x1408x128 .bf16} {arg10 : Memref sig .tc .vmem S88x128 .f32} {v20 : FVec Ideal S8x128 .f32} {v22 v24 v26 v28 v30 v32 v33 v35 v37 v39 v41 v43 v45 v47 v49 v51 : EReal}
    {f4 : Buf (Elt Ideal) (View.loc (c : Thread nD τ) arg4.view)} : ∀ {k : ℕ} {f : Buf (Elt Ideal) (View.loc (c : Thread nD τ) arg10.view)},
    RowsAt c arg4 arg10 v20 v22 v24 v26 v28 v30 v32 v33 v35 v37 v39 v41 v43 v45 v47 v49 v51 f4 k f = True → Rows c arg4 arg10 v20 v22 v24 v26 v28 v30 v32 v33 v35 v37 v39 v41 v43 v45 v47 v49 v51 f4 k f
  | 0, _, _ => fun _ _ h => absurd h (by omega)
  | _ + 1, _, h => of_eq_true h

/-- What the trips share: the tile as it is, the scales found so far, the rest at some contents. -/
def heldV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (f4 : Buf (Elt Ideal) (View.loc (c : Thread nD τ) arg4.view)) (k : ℕ) : sProp 𝕄 :=
  iprop(pt c arg4 f4 ∗ (∃ f, pt c arg5 f) ∗ (∃ f, pt c arg7 f) ∗ (∃ f, pt c arg10 f ∗ ⌜RowsAt c arg4 arg10 v20 v22 v24 v26 v28 v30 v32 v33 v35 v37 v39 v41 v43 v45 v47 v49 v51 f4 k f = True⌝) ∗ (∃ f, pt c arg11 f))

set_option maxHeartbeats 1000000 in
theorem tripV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (k0_t1 : Fin k0_t1_loop.trips) (acc : Unit) (f4 : Buf (Elt Ideal) (View.loc (c : Thread nD τ) arg4.view)) :
    heldV c i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 f4 k0_t1.val
      ⊢ wp frame (wpE (defs₀ (F := Ideal)) Variants.none c none) Set.univ (k0_t1_body (F := Ideal) i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 k0_t1 acc)
        (fun _ => heldV c i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 f4 (k0_t1.val + 1)) := by
  unfold heldV k0_t1_body
  iintro ⟨H4, ⟨%f5, H5⟩, ⟨%f7, H7⟩, ⟨%f10, H10, %hrows⟩, ⟨%f11, H11⟩⟩
  sl_exec_parts
  sl_step
  isplitl [H4]; · iexact H4
  isplitl [H5]; · iexists _; iexact H5
  isplitl [H7]; · iexists _; iexact H7
  isplitl [H10]
  · iexists _
    isplitl [H10]; · iexact H10
    ipureintro
    exact eq_true (rows_step c arg4 arg10 v20 v22 v24 v26 v28 v30 v32 v33 v35 v37 v39 v41 v43 v45 v47 v49 v51 f4 k0_t1 f10 _ _ (stored_eq c arg4 harg4 v20 v22 v24 v26 v28 v30 v32 v33 v35 v37 v39 v41 v43 v45 v47 v49 v51 k0_t1 f4) (RowsAt.rows hrows))
  iexists _; iexact H11

@[reducible, sl_loop] def loopInv (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (arg1 : BitVec 32) (v20 : FVec Ideal S8x128 .f32) (v22 : Ideal .f32) (v24 : Ideal .f32) (v26 : Ideal .f32) (v28 : Ideal .f32) (v30 : Ideal .f32) (v32 : Ideal .f32) (v33 : Elt Ideal .f32) (v35 : Elt Ideal .f32) (v37 : Elt Ideal .f32) (v39 : Elt Ideal .f32) (v41 : Elt Ideal .f32) (v43 : Elt Ideal .f32) (v45 : Elt Ideal .f32) (v47 : Elt Ideal .f32) (v49 : Elt Ideal .f32) (v51 : Elt Ideal .f32) (v54 : BitVec 32) (v55 : IVec S8x128 32) (f4 : Buf (Elt Ideal) (View.loc (c : Thread nD τ) arg4.view)) :
    LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 where
  inv := fun k _ => heldV c i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 f4 k
  step := fun k acc => tripV c i arg2 harg2 arg3 harg3 arg4 harg4 arg5 harg5 arg6 harg6 arg7 harg7 arg8 harg8 arg9 harg9 arg10 harg10 arg11 harg11 arg1 v20 v22 v24 v26 v28 v30 v32 v33 v35 v37 v39 v41 v43 v45 v47 v49 v51 v54 v55 k acc f4

theorem fold_pair (h : Fin 24 → EReal) (z : EReal) :
    Finset.fold max z (fun x : Fin 1 × Fin 24 => h x.2) Finset.univ = Finset.fold max z h Finset.univ := by
  refine eq_of_forall_ge_iff fun w => ?_
  simp only [Finset.fold_max_le, Finset.mem_univ, true_implies]
  exact ⟨fun H => ⟨H.1, fun k => H.2 (0, k)⟩, fun H => ⟨H.1, fun x => H.2 x.2⟩⟩

theorem ofBits_one : Ideal.ofBits .f32 1065353216#32 = 1 := by
  have h : Ideal.ofBits .f32 1065353216#32 = ((1 : ℝ) : EReal) := by simp [Ideal.ofBits, Ideal.ieee, -EReal.coe_mul]; norm_num
  rw [h, EReal.coe_one]

/-- The tensor's scale as the body computes it. -/
theorem ts_eq (v5 : Vec Ideal S1x24 .f32) : k0_pay203 (F := Ideal) v5 (ix2 0 0) = tensorScale (fun k => v5 (ix2 0 k)) := by
  pointwise [k0_pay203]
  unfold tensorScale
  rw [ofBits_one, fold_pair (fun k => v5 (ix2 0 k))]

/-- The tensor's scale spread over eight rows. -/
theorem v20_eq (v5 : Vec Ideal S1x24 .f32) (s : Fin 8) (l : Fin 128) : k0_pay204 (F := Ideal) v5 (ix2 s l) = tensorScale (fun k => v5 (ix2 0 k)) := by
  refine Eq.trans ?_ (ts_eq v5)
  unfold k0_pay204
  generalize k0_pay203 v5 = w
  pointwise []

/-- One sign, loaded. -/
theorem load_one (c : Dev nD) (arg2 : Memref sig .tc .smem S16 .f32) (f2 : Buf (Elt Ideal) (View.loc (c : Thread nD τ) arg2.view)) (n : ℕ) (hn : n < 16) (inb) (h0) :
    arg2.view.readAt (Elt Ideal) (Rect.unit (s := S16) ![n] S1.size inb).toLoadRect f2 (Shape.Idx.first h0) = arg2.view.read (Elt Ideal) f2 (ix1 ⟨n, hn⟩) := by
  refine congrArg (arg2.view.read (Elt Ideal) f2) ?_
  funext a
  fin_cases a
  rfl

/-- The factors as the body computes them from the signs. -/
theorem factor_eq (w : Fin 16 → EReal) (n : Fin 16) :
    factor (k0_pay205 (F := Ideal) (w 0)) (k0_pay206 (F := Ideal) (w 1)) (k0_pay207 (F := Ideal) (w 2)) (k0_pay208 (F := Ideal) (w 3)) (k0_pay209 (F := Ideal) (w 4)) (k0_pay210 (F := Ideal) (w 5)) (w 6) (w 7) (w 8) (w 9) (w 10) (w 11) (w 12) (w 13) (w 14) (w 15) n = w n * Ideal.ofBits .f32 1048576000#32 :=
  match n with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨k + 16, h⟩ => absurd h (by omega)

/-- The block of scales stored at the end. -/
theorem bs_out (c : Dev nD) (arg2 : Memref sig .tc .smem S16 .f32) (arg3 : Memref sig .tc .vmem S1x24 .f32) (arg4 : Memref sig .tc .vmem S1x1408x128 .bf16) (arg6 : Memref sig .tc .vmem S1x88x128 .fp8e4m3) (arg10 : Memref sig .tc .vmem S88x128 .f32) (v5 : Vec Ideal S1x24 .f32) (w0 w1 w2 w3 w4 w5 w6 w7 w8 w9 w10 w11 w12 w13 w14 w15 : EReal)
    (f2 : Buf (Elt Ideal) (View.loc (c : Thread nD τ) arg2.view)) (f3 : Buf (Elt Ideal) (View.loc (c : Thread nD τ) arg3.view)) (f4 : Buf (Elt Ideal) (View.loc (c : Thread nD τ) arg4.view)) (fb : Buf (Elt Ideal) (View.loc (c : Thread nD τ) arg6.view)) (f : Buf (Elt Ideal) (View.loc (c : Thread nD τ) arg10.view)) (inb) (inb')
    (h : Rows c arg4 arg10 (k0_pay204 (F := Ideal) v5) (k0_pay205 (F := Ideal) w0) (k0_pay206 (F := Ideal) w1) (k0_pay207 (F := Ideal) w2) (k0_pay208 (F := Ideal) w3) (k0_pay209 (F := Ideal) w4) (k0_pay210 (F := Ideal) w5) w6 w7 w8 w9 w10 w11 w12 w13 w14 w15 f4 (Scf.trips k0_t1_loop.lb k0_t1_loop.ub k0_t1_loop.st) f)
    (hv5 : v5 = arg3.view.read (Elt Ideal) f3)
        (h0 : w0 = (arg2.view.read (Elt Ideal) f2 (ix1 0) : EReal))
    (h1 : w1 = (arg2.view.read (Elt Ideal) f2 (ix1 1) : EReal))
    (h2 : w2 = (arg2.view.read (Elt Ideal) f2 (ix1 2) : EReal))
    (h3 : w3 = (arg2.view.read (Elt Ideal) f2 (ix1 3) : EReal))
    (h4 : w4 = (arg2.view.read (Elt Ideal) f2 (ix1 4) : EReal))
    (h5 : w5 = (arg2.view.read (Elt Ideal) f2 (ix1 5) : EReal))
    (h6 : w6 = (arg2.view.read (Elt Ideal) f2 (ix1 6) : EReal))
    (h7 : w7 = (arg2.view.read (Elt Ideal) f2 (ix1 7) : EReal))
    (h8 : w8 = (arg2.view.read (Elt Ideal) f2 (ix1 8) : EReal))
    (h9 : w9 = (arg2.view.read (Elt Ideal) f2 (ix1 9) : EReal))
    (h10 : w10 = (arg2.view.read (Elt Ideal) f2 (ix1 10) : EReal))
    (h11 : w11 = (arg2.view.read (Elt Ideal) f2 (ix1 11) : EReal))
    (h12 : w12 = (arg2.view.read (Elt Ideal) f2 (ix1 12) : EReal))
    (h13 : w13 = (arg2.view.read (Elt Ideal) f2 (ix1 13) : EReal))
    (h14 : w14 = (arg2.view.read (Elt Ideal) f2 (ix1 14) : EReal))
    (h15 : w15 = (arg2.view.read (Elt Ideal) f2 (ix1 15) : EReal))
    (r : Fin 88) (l : Fin 128) :
    arg6.view.read (Elt Ideal) (arg6.view.writes (Elt Ideal) fb [⟨Rect.unit (s := S1x88x128) ![0, 0, 0] S1x88x128.size inb,
        k0_pay1 (F := Ideal) (k0_pay223 (F := Ideal) (arg10.view.readAt (Elt Ideal) (Rect.unit (s := S88x128) ![0, 0] S88x128.size inb').toLoadRect f))⟩]) (ix3 0 r l)
      = blockScale (fun k => arg3.view.read (Elt Ideal) f3 (ix2 0 k)) (fun n => arg2.view.read (Elt Ideal) f2 (ix1 n))
          (fun n => arg4.view.read (Elt Ideal) f4 (ix3 0 ⟨16 * r.val + n.val, by omega⟩ l)) := by
  have ht : Scf.trips k0_t1_loop.lb k0_t1_loop.ub k0_t1_loop.st = 11 := by decide +kernel
  rw [ht] at h
  rw [View.read_writes_full, View.readAt_full]
  refine Eq.trans ?_ ((h r l (by omega)).trans ?_)
  · generalize arg10.view.read (Elt Ideal) f = w
    pointwise [k0_pay1, k0_pay223]
  · unfold rowScale blockScale
    rw [v20_eq, hv5]
    rw [h0, h1, h2, h3, h4, h5, h6, h7, h8, h9, h10, h11, h12, h13, h14, h15]
    simp only [factor_eq (fun n => arg2.view.read (Elt Ideal) f2 (ix1 n))]

/-- What the body leaves: the signs and the amaxes as they were, the scales of the tile's blocks and the tensor's scale in the result blocks. -/
def leftV (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (f2 : Buf (Elt Ideal) (View.loc (c : Thread nD τ) arg2.view)) (f3 : Buf (Elt Ideal) (View.loc (c : Thread nD τ) arg3.view)) (f4 : Buf (Elt Ideal) (View.loc (c : Thread nD τ) arg4.view)) : sProp 𝕄 :=
  iprop(pt c arg2 f2 ∗ pt c arg3 f3 ∗ (∃ f, pt c arg4 f) ∗ (∃ f, pt c arg5 f) ∗ (∃ f, pt c arg6 f ∗ ⌜∀ r l, arg6.view.read (Elt Ideal) f (ix3 0 r l) = blockScale (fun k => arg3.view.read (Elt Ideal) f3 (ix2 0 k)) (fun n => arg2.view.read (Elt Ideal) f2 (ix1 n)) (fun n => arg4.view.read (Elt Ideal) f4 (ix3 0 ⟨16 * r.val + n.val, by omega⟩ l))⌝) ∗ (∃ f, pt c arg7 f) ∗ (∃ f, pt c arg8 f) ∗ (∃ f, pt c arg9 f ∗ ⌜arg9.view.read (Elt Ideal) f (ix2 0 0) = tensorScale (fun k => arg3.view.read (Elt Ideal) f3 (ix2 0 k))⌝) ∗ (∃ f, pt c arg10 f) ∗ (∃ f, pt c arg11 f))

set_option maxHeartbeats 1000000 in
theorem kernelRun (c : Dev nD) (i : grid0.Coords) (arg2 : Memref sig .tc .smem S16 .f32) (harg2 : arg2.IsWhole) (arg3 : Memref sig .tc .vmem S1x24 .f32) (harg3 : arg3.IsWhole) (arg4 : Memref sig .tc .vmem S1x1408x128 .bf16) (harg4 : arg4.IsWhole) (arg5 : Memref sig .tc .vmem S1x704x128 .i8) (harg5 : arg5.IsWhole) (arg6 : Memref sig .tc .vmem S1x88x128 .fp8e4m3) (harg6 : arg6.IsWhole) (arg7 : Memref sig .tc .vmem S128x1408 .bf16) (harg7 : arg7.IsWhole) (arg8 : Memref sig .tc .vmem S1x128 .f32) (harg8 : arg8.IsWhole) (arg9 : Memref sig .tc .vmem S1x1 .f32) (harg9 : arg9.IsWhole) (arg10 : Memref sig .tc .vmem S88x128 .f32) (harg10 : arg10.IsWhole) (arg11 : Memref sig .tc .vmem S8x128 .f32) (harg11 : arg11.IsWhole) (f2 : Buf (Elt Ideal) (View.loc (c : Thread nD τ) arg2.view)) (f3 : Buf (Elt Ideal) (View.loc (c : Thread nD τ) arg3.view)) (f4 : Buf (Elt Ideal) (View.loc (c : Thread nD τ) arg4.view)) (K : PUnit → sProp 𝕄) :
    iprop((pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f)) ∗ (leftV c i arg2 harg2 arg3 harg3 arg4 harg4 arg5 harg5 arg6 harg6 arg7 harg7 arg8 harg8 arg9 harg9 arg10 harg10 arg11 harg11 f2 f3 f4 -∗ K ⟨⟩))
      ⊢ wp frame (wpE (defs₀ (F := Ideal)) Variants.none c none) Set.univ (cc0_quant_x (F := Ideal) i arg2 harg2 arg3 harg3 arg4 harg4 arg5 harg5 arg6 harg6 arg7 harg7 arg8 harg8 arg9 harg9 arg10 harg10 arg11 harg11) K := by
  iintro ⟨⟨H2, H3, H4, ⟨%f5, H5⟩, ⟨%f6, H6⟩, ⟨%f7, H7⟩, ⟨%f8, H8⟩, ⟨%f9, H9⟩, ⟨%f10, H10⟩, ⟨%f11, H11⟩⟩, Hk⟩
  by_cases h0 : Scalar.cmpi .ne (Scalar.extui (Scalar.andi (Scalar.cmpi .eq (BitVec.ofNat 32 (i 0).val) 0#32) (Scalar.cmpi .eq (BitVec.ofNat 32 (i 1).val) 0#32))) (0#32 : BitVec 32) = 1#1
  all_goals
    sl_exec_parts
    sl_step
    iapply Hk
    unfold leftV
    isplitl [H2]; · iexact H2
    isplitl [H3]; · iexact H3
    isplitl [H4]; · iexists _; iexact H4
    isplitl [H5]; · iexists _; iexact H5
    isplitl [H6]
    · iexists _; isplitl [H6]; · iexact H6
      ipureintro
      refine bs_out c arg2 arg3 arg4 arg6 arg10 _ _ _ _ _ _ _ _ _ _ _ _ _ _ _ _ _ f2 f3 f4 _ _ _ _ (RowsAt.rows hL4) ?_ ?_ ?_ ?_ ?_ ?_ ?_ ?_ ?_ ?_ ?_ ?_ ?_ ?_ ?_ ?_ ?_
      · exact View.readAt_full arg3.view f3 _
      · exact load_one c arg2 f2 0 (by omega) _ _
      · exact load_one c arg2 f2 1 (by omega) _ _
      · exact load_one c arg2 f2 2 (by omega) _ _
      · exact load_one c arg2 f2 3 (by omega) _ _
      · exact load_one c arg2 f2 4 (by omega) _ _
      · exact load_one c arg2 f2 5 (by omega) _ _
      · exact load_one c arg2 f2 6 (by omega) _ _
      · exact load_one c arg2 f2 7 (by omega) _ _
      · exact load_one c arg2 f2 8 (by omega) _ _
      · exact load_one c arg2 f2 9 (by omega) _ _
      · exact load_one c arg2 f2 10 (by omega) _ _
      · exact load_one c arg2 f2 11 (by omega) _ _
      · exact load_one c arg2 f2 12 (by omega) _ _
      · exact load_one c arg2 f2 13 (by omega) _ _
      · exact load_one c arg2 f2 14 (by omega) _ _
      · exact load_one c arg2 f2 15 (by omega) _ _
    isplitl [H7]; · iexists _; iexact H7
    isplitl [H8]; · iexists _; iexact H8
    isplitl [H9]
    · iexists _; isplitl [H9]; · iexact H9
      ipureintro
      exact (congrFun (View.read_writes_full arg9.view _ _ _ _) _).trans ((ts_eq _).trans (congrArg (fun v : Vec Ideal S1x24 .f32 => tensorScale fun k => v (ix2 0 k)) (View.readAt_full arg3.view f3 _)))
    isplitl [H10]; · iexists _; iexact H10
    iexists _; iexact H11

end Cert.QuantXIdeal.Hand

end
-- ==== Proof.RunX.lean ====
/-
  The whole call on its values: what each block of the grid leaves in the arrays of the scales and of the tensor's scale.

  The relation of a grid point says of an input's staging buffer that it stays as found, of the scales' buffer that it holds
  the scales of the point's blocks (`scaleArr`, on the lanes inside the array), and of the tensor's scale that it is
  `tensorScale`; of the other buffers nothing.
-/
module

public import proofs.«01_k».proof.Proof.ValueX
public import proofs.«01_k».proof.Proof.Gen.QuantXIdeal.Frame
public import Idealize.ShloMosaic.Lib.Pipeline.ArrRel
public import Idealize.ShloMosaic.Lib.StableHlo.ReadAt

@[expose] public section

set_option maxRecDepth 16384

noncomputable section

namespace Cert.QuantXIdeal.Hand

open Cert.QuantXIdeal Cert.QuantXIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The last amaxes. -/
def hist (c : Dev nD) (k : Fin 24) : EReal := (m ((c.tc : Thread nD τ).loc main_arg2) : Vec Ideal S24 .f32) (ix1 k)

/-- The signs. -/
def signs (c : Dev nD) (n : Fin 16) : EReal := (m ((c.tc : Thread nD τ).loc main_arg1) : Vec Ideal S16 .f32) (ix1 n)

/-- The scale of block `r` of slice `b` in lane `l`. -/
def scaleAt (c : Dev nD) (b : Fin 6) (r : Fin 88) (l : Fin 2880) : EReal :=
  blockScale (hist m c) (signs m c) (fun n => (m ((c.tc : Thread nD τ).loc main_arg0) : Vec Ideal S6x1408x2880 .bf16) (ix3 b ⟨16 * r.val + n.val, by omega⟩ l))

/-- The array of the scales. -/
def scaleArr (c : Dev nD) : Vec Ideal S6x88x2880 .fp8e4m3 := fun i => scaleAt m c ⟨(i 0).val, (i 0).isLt⟩ ⟨(i 1).val, (i 1).isLt⟩ ⟨(i 2).val, (i 2).isLt⟩

/-- The array of the tensor's scale. -/
def tsArr (c : Dev nD) : Vec Ideal S1x1 .f32 := fun _ => tensorScale (hist m c)

theorem at2 : ∀ t : Fin grid0.N, win0_2.index t 0 = t.val / 23 ∧ win0_2.index t 1 = 0 ∧ win0_2.index t 2 = t.val % 23 := by decide +kernel

theorem atS : ∀ t : Fin grid0.N, win0_4.index t 0 = t.val / 23 ∧ win0_4.index t 1 = 0 ∧ win0_4.index t 2 = t.val % 23 := by decide +kernel

theorem xs2 : ∀ t : Fin grid0.N, win0_2.xsize (grid0.coords t) 0 = 1 ∧ win0_2.xsize (grid0.coords t) 1 = 1408
    ∧ win0_2.xsize (grid0.coords t) 2 = min 128 (2880 - 128 * (t.val % 23)) := by decide +kernel

theorem xsS : ∀ t : Fin grid0.N, win0_4.xsize (grid0.coords t) 0 = 1 ∧ win0_4.xsize (grid0.coords t) 1 = 88
    ∧ win0_4.xsize (grid0.coords t) 2 = min 128 (2880 - 128 * (t.val % 23)) := by decide +kernel

/-- What the body may leave in each window's staging buffer. -/
def left (c : Dev nD) : (w : Fin cfg0.W) → Fin cfg0.N → ((cfg0.win w).block.Idx → Elt Ideal (cfg0.win w).elt) → ((cfg0.win w).block.Idx → Elt Ideal (cfg0.win w).elt) → Prop
  | ⟨0, _⟩, _, Y, X => X = Y
  | ⟨1, _⟩, _, Y, X => X = Y
  | ⟨4, _⟩, t, _, X => ∀ (b : Fin 6) (r : Fin 88) (l : Fin 128) (h : 128 * (t.val % 23) + l.val < 2880), b.val = t.val / 23 →
      (X : Vec Ideal S1x88x128 .fp8e4m3) (ix3 0 r l) = scaleAt m c b r ⟨128 * (t.val % 23) + l.val, h⟩
  | ⟨7, _⟩, _, _, X => (X : Vec Ideal S1x1 .f32) (ix2 0 0) = tensorScale (hist m c)
  | _, _, _, _ => True

def rdat (c : Dev nD) : Pipeline.RDat τ (Elt Ideal) Unit ℕ (UR sig nD τ) ℕ cfg0 c where
  A w := V m c (Pipeline.arrRef spec0 w)
  after w t Y X := left m c w t Y X
  Φ _ := Pipeline.ΦA spec0 c
  q _ := fullShare
  owed _ := 0

theorem V_hist (c : Dev nD) (k : Fin 24) : (V m c main_v0 : Vec Ideal S1x24 .f32) (ix2 0 k) = hist m c k := by
  unfold V
  after_reads_at
  rfl

/-- The block of signs, as fetched. -/
theorem fetched0 (c : Dev nD) (t d) (n : Fin 16) : ((rdat m c).fetched 0 t d : Vec Ideal S16 .f32) (ix1 n) = signs m c n := by
  have e : ((rdat m c).fetched 0 t d : Vec Ideal S16 .f32) = fun j => V m c main_arg1 (((cfg0.win 0).blk t).view.emb j) := rfl
  rw [e]
  refine (congrFun (V_main_arg1 m c) _).trans ?_
  unfold signs
  congr 1
  funext a
  refine Fin.ext ?_
  fin_cases a
  show win0_0.index t 0 * 16 + 1 * n.val = n.val
  rw [show win0_0.index t 0 = 0 from rfl]; omega

/-- The block of amaxes, as fetched. -/
theorem fetched1 (c : Dev nD) (t d) (k : Fin 24) : ((rdat m c).fetched 1 t d : Vec Ideal S1x24 .f32) (ix2 0 k) = hist m c k := by
  have e : ((rdat m c).fetched 1 t d : Vec Ideal S1x24 .f32) = fun j => V m c main_v0 (((cfg0.win 1).blk t).view.emb j) := rfl
  rw [e, ← V_hist]
  beta_reduce
  congr 1
  funext a
  refine Fin.ext ?_
  match a with
  | ⟨0, _⟩ => show win0_1.index t 0 * 1 + 1 * 0 = 0; rw [show win0_1.index t 0 = 0 from rfl]
  | ⟨1, _⟩ => show win0_1.index t 1 * 24 + 1 * k.val = k.val; rw [show win0_1.index t 1 = 0 from rfl]; omega

/-- The block of tokens, as fetched, on the lanes inside the array. -/
theorem fetched2 (c : Dev nD) (t : Fin cfg0.N) (d) (s : Fin 1408) (l : Fin 128) (b : Fin 6) (hb : b.val = t.val / 23) (h : 128 * (t.val % 23) + l.val < 2880) :
    ((rdat m c).fetched 2 t d : Vec Ideal S1x1408x128 .bf16) (ix3 0 s l)
      = (m ((c.tc : Thread nD τ).loc main_arg0) : Vec Ideal S6x1408x2880 .bf16) (ix3 b s ⟨128 * (t.val % 23) + l.val, h⟩) := by
  have hm : (cfg0.win 2).moved (cfg0.grid.coords t) (ix3 (0 : Fin 1) s l) = true := ((cfg0.win 2).moved_iff _ _).mpr fun a => by
    match a with
    | ⟨0, _⟩ => show 0 < win0_2.xsize (grid0.coords t) 0; rw [(xs2 t).1]; omega
    | ⟨1, _⟩ => show s.val < win0_2.xsize (grid0.coords t) 1; rw [(xs2 t).2.1]; omega
    | ⟨2, _⟩ => show l.val < win0_2.xsize (grid0.coords t) 2; rw [(xs2 t).2.2]; omega
  unfold Pipeline.RDat.fetched Pipeline.Window.fill
  rw [dif_pos hm]
  refine Eq.trans ?_ (congrFun (V_main_arg0 m c) _)
  show V m c main_arg0 (((cfg0.win 2).blk t).view.emb _) = V m c main_arg0 _
  congr 1
  funext a
  refine Fin.ext ?_
  match a with
  | ⟨0, _⟩ => show win0_2.index t 0 * 1 + 1 * 0 = b.val; rw [(at2 t).1, hb]; omega
  | ⟨1, _⟩ => show win0_2.index t 1 * 1408 + 1 * s.val = s.val; rw [(at2 t).2.1]; omega
  | ⟨2, _⟩ => show win0_2.index t 2 * 128 + 1 * l.val = 128 * (t.val % 23) + l.val; rw [(at2 t).2.2]; omega

theorem found0 (c : Dev nD) (t Y) (h : (rdat m c).Finds 0 t Y) (n : Fin 16) : (Y : Vec Ideal S16 .f32) (ix1 n) = signs m c n := by
  obtain ⟨d, rfl⟩ := (rdat m c).finds_in_eq_fetched 0 rfl (fun _ _ _ => rfl) (fun _ _ _ h => h) t Y h
  exact fetched0 m c t d n

theorem found1 (c : Dev nD) (t Y) (h : (rdat m c).Finds 1 t Y) (k : Fin 24) : (Y : Vec Ideal S1x24 .f32) (ix2 0 k) = hist m c k := by
  obtain ⟨d, rfl⟩ := (rdat m c).finds_in_eq_fetched 1 rfl (fun _ _ _ => rfl) (fun _ _ _ h => h) t Y h
  exact fetched1 m c t d k

theorem found2 (c : Dev nD) (t : Fin cfg0.N) (Y) (h : (rdat m c).Finds 2 t Y) (s : Fin 1408) (l : Fin 128) (b : Fin 6) (hb : b.val = t.val / 23) (hl : 128 * (t.val % 23) + l.val < 2880) :
    (Y : Vec Ideal S1x1408x128 .bf16) (ix3 0 s l)
      = (m ((c.tc : Thread nD τ).loc main_arg0) : Vec Ideal S6x1408x2880 .bf16) (ix3 b s ⟨128 * (t.val % 23) + l.val, hl⟩) := by
  obtain ⟨d, rfl⟩ := ((rdat m c).finds_of_fetch (fetch0_2 t) Y).mp h
  exact fetched2 m c t d s l b hb hl

/-- A whole memref owned at some contents: its buffer's points-to at a buffer that reads as them. -/
theorem owns_open (c : Dev nD) {sp : Space} {S : Shape} {el : EltTy} (M : Memref sig .tc sp S el) (h : M.IsWhole) (X : S.Idx → Elt Ideal el) :
    (owns (c : Thread nD τ) M fullShare X : sProp 𝕄) ⊢ iprop(∃ f, ⌜M.view.read (Elt Ideal) f = X⌝ ∗ pt c M f) := by
  obtain ⟨b, hsp, hsh, he, h⟩ := h
  subst hsp hsh he
  cases h
  rw [owns_whole]
  iintro H
  iexists X
  isplitr
  · ipureintro; rfl
  iexact H

theorem owns_close (c : Dev nD) {sp : Space} {S : Shape} {el : EltTy} (M : Memref sig .tc sp S el) (h : M.IsWhole) (f : Buf (Elt Ideal) (View.loc (c : Thread nD τ) M.view)) :
    (pt c M f : sProp 𝕄) ⊢ owns (c : Thread nD τ) M fullShare (M.view.read (Elt Ideal) f) := by
  obtain ⟨b, hsp, hsh, he, h⟩ := h
  subst hsp hsh he
  cases h
  rw [owns_whole]
  iintro H
  iexact H

/-- What the body may use besides the windows: the two scratch arrays at some contents, and the register. -/
theorem phi_eq (c : Dev nD) (t) : (rdat m c).Φ t
    = iprop(((∃ f, pt c (Memref.whole cc0_scratch0) f) ∗ (∃ f, pt c (Memref.whole cc0_scratch1) f)) ∗ (∃ r, prngReg c r)) := by
  show Pipeline.ΦA spec0 c = _
  unfold Pipeline.ΦA
  rw [scopedRest0_eq]

theorem scales_left (c : Dev nD) (t : Fin cfg0.N) (Y0 Y1 Y2) (h0 : (rdat m c).Finds 0 t Y0) (h1 : (rdat m c).Finds 1 t Y1) (h2 : (rdat m c).Finds 2 t Y2)
    (Y X) (h : ∀ r l, (X : Vec Ideal S1x88x128 .fp8e4m3) (ix3 0 r l) = blockScale (fun k => (Y1 : Vec Ideal S1x24 .f32) (ix2 0 k)) (fun n => (Y0 : Vec Ideal S16 .f32) (ix1 n))
      (fun n => (Y2 : Vec Ideal S1x1408x128 .bf16) (ix3 0 ⟨16 * r.val + n.val, by omega⟩ l))) : left m c 4 t Y X := by
  intro b r l hl hb
  refine (h r l).trans ?_
  unfold scaleAt
  rw [show (fun k => (Y1 : Vec Ideal S1x24 .f32) (ix2 0 k)) = hist m c from funext fun k => found1 m c t Y1 h1 k,
    show (fun n => (Y0 : Vec Ideal S16 .f32) (ix1 n)) = signs m c from funext fun n => found0 m c t Y0 h0 n]
  congr 1
  funext n
  exact found2 m c t Y2 h2 _ l b hb hl

set_option maxHeartbeats 1000000 in
theorem body_obligation (c : Dev nD) : (rdat m c).BodyObligation (defs₀ (F := Ideal)) Variants.none () Set.univ := by
  intro t Y hY
  rw [bigSep_W0, bigSep_W0, defs₀_row, phi_eq, phi_eq]
  unfold bodyAt0
  iintro ⟨⟨⟨⟨%s0, HS0⟩, ⟨%s1, HS1⟩⟩, Hg⟩, HO, H0, H1, H2, H3, H4, H5, H6, H7⟩
  icases (owns_open c _ (stage_whole0 0 _) _) $$ H0 with ⟨%f0, %e0, H0⟩
  icases (owns_open c _ (stage_whole0 1 _) _) $$ H1 with ⟨%f1, %e1, H1⟩
  icases (owns_open c _ (stage_whole0 2 _) _) $$ H2 with ⟨%f2, %e2, H2⟩
  icases (owns_open c _ (stage_whole0 3 _) _) $$ H3 with ⟨%f3, %e3, H3⟩
  icases (owns_open c _ (stage_whole0 4 _) _) $$ H4 with ⟨%f4, %e4, H4⟩
  icases (owns_open c _ (stage_whole0 5 _) _) $$ H5 with ⟨%f5, %e5, H5⟩
  icases (owns_open c _ (stage_whole0 6 _) _) $$ H6 with ⟨%f6, %e6, H6⟩
  icases (owns_open c _ (stage_whole0 7 _) _) $$ H7 with ⟨%f7, %e7, H7⟩
  iapply (kernelRun c (grid0.coords t) _ _ _ _ _ _ _ _ _ _ _ _ _ _ _ _ _ _ _ _ f0 f1 f2 _)
  isplitr [HO Hg]
  · isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1
  unfold leftV
  iintro ⟨H0, H1, ⟨%g2, H2⟩, ⟨%g3, H3⟩, ⟨%g4, H4, %hs⟩, ⟨%g5, H5⟩, ⟨%g6, H6⟩, ⟨%g7, H7, %ht⟩, HS0, HS1⟩
  isplitl [HS0 HS1 Hg]
  · isplitl [HS0 HS1]
    · isplitl [HS0]; · iexact HS0
      iexact HS1
    iexact Hg
  isplitl [HO]; · iexact HO
  isplitl [H0]
  · icases (owns_close c _ (stage_whole0 0 _) f0) $$ H0 with H0
    iexists (((spec0 0).stage (cfg0.slots t 0)).view.read (Elt Ideal) f0); isplitr
    · ipureintro; exact e0
    iexact H0
  isplitl [H1]
  · icases (owns_close c _ (stage_whole0 1 _) f1) $$ H1 with H1
    iexists (((spec0 1).stage (cfg0.slots t 1)).view.read (Elt Ideal) f1); isplitr
    · ipureintro; exact e1
    iexact H1
  isplitl [H2]
  · icases (owns_close c _ (stage_whole0 2 _) g2) $$ H2 with H2
    iexists (((spec0 2).stage (cfg0.slots t 2)).view.read (Elt Ideal) g2); isplitr
    · ipureintro; trivial
    iexact H2
  isplitl [H3]
  · icases (owns_close c _ (stage_whole0 3 _) g3) $$ H3 with H3
    iexists (((spec0 3).stage (cfg0.slots t 3)).view.read (Elt Ideal) g3); isplitr
    · ipureintro; trivial
    iexact H3
  isplitl [H4]
  · icases (owns_close c _ (stage_whole0 4 _) g4) $$ H4 with H4
    iexists (((spec0 4).stage (cfg0.slots t 4)).view.read (Elt Ideal) g4); isplitr
    · ipureintro; exact scales_left m c t _ _ _ (hY 0) (hY 1) (hY 2) (Y 4) _ (by rw [← e0, ← e1, ← e2]; exact hs)
    iexact H4
  isplitl [H5]
  · icases (owns_close c _ (stage_whole0 5 _) g5) $$ H5 with H5
    iexists (((spec0 5).stage (cfg0.slots t 5)).view.read (Elt Ideal) g5); isplitr
    · ipureintro; trivial
    iexact H5
  isplitl [H6]
  · icases (owns_close c _ (stage_whole0 6 _) g6) $$ H6 with H6
    iexists (((spec0 6).stage (cfg0.slots t 6)).view.read (Elt Ideal) g6); isplitr
    · ipureintro; trivial
    iexact H6
  icases (owns_close c _ (stage_whole0 7 _) g7) $$ H7 with H7
  iexists (((spec0 7).stage (cfg0.slots t 7)).view.read (Elt Ideal) g7); isplitr
  · ipureintro; exact ht.trans (congrArg tensorScale (funext fun k => (congrFun e1 _).trans (found1 m c t _ (hY 1) k)))
  iexact H7

set_option backward.isDefEq.respectTransparency.types false in
theorem run_main :
    θ_run defs (onTc (τ := τ) (main (F := Ideal))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

theorem frame_run : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => ⟨(h.1.arr_in c 2 rfl).trans (V_main_arg0 m c), (h.1.arr_in c 0 rfl).trans (V_main_arg1 m c), ((h.1 c).2 main_arg2 (Pipeline.mem_restRefs_of main_arg2 (by decide) (by decide))).trans (V_main_arg2 m c)⟩, h.2⟩) (run_main m ρ)

/-- The array of the scales at the end. -/
theorem scales_final (c : Dev nD) (after) (hL : ∀ u : Fin cfg0.N, (cfg0.win 4).flush u = true → (rdat m c).Leaves 4 u (after 4 u)) :
    ((rdat m c).withAfter after).arrAt 4 cfg0.N = scaleArr m c := by
  refine ((rdat m c).withAfter after).arrAt_eq_of_cover 4 (scaleArr m c) (fun t hf => ?_) (fun i => ?_)
  · obtain ⟨Y, -, h⟩ := hL t hf
    have hN : t.val < 138 := lt_of_lt_of_eq t.isLt (show cfg0.N = 138 from N_0)
    funext j
    have h0 : (j 0).val < 1 := lt_of_lt_of_eq (j 0).isLt (xsS t).1
    have h1 : (j 1).val < 88 := lt_of_lt_of_eq (j 1).isLt (xsS t).2.1
    have h2 : (j 2).val < min 128 (2880 - 128 * (t.val % 23)) := lt_of_lt_of_eq (j 2).isLt (xsS t).2.2
    have key := h ⟨t.val / 23, by omega⟩ ⟨(j 1).val, h1⟩ ⟨(j 2).val, by omega⟩ (by show 128 * (t.val % 23) + (j 2).val < 2880; omega) rfl
    rw [View.read_apply]
    refine Eq.trans ?_ (key.trans ?_)
    · show after 4 t _ = after 4 t _
      congr 1
      funext a
      refine Fin.ext ?_
      match a with
      | ⟨0, _⟩ => show (j 0).val = 0; omega
      | ⟨1, _⟩ => rfl
      | ⟨2, _⟩ => rfl
    · show scaleAt m c _ _ _ = scaleAt m c _ _ _
      congr 1
      · refine Fin.ext ?_
        show t.val / 23 = win0_4.index t 0 * 1 + 1 * (j 0).val
        rw [(atS t).1]; omega
      · refine Fin.ext ?_
        show (j 1).val = win0_4.index t 1 * 88 + 1 * (j 1).val
        rw [(atS t).2.1]; omega
      · refine Fin.ext ?_
        show 128 * (t.val % 23) + (j 2).val = win0_4.index t 2 * 128 + 1 * (j 2).val
        rw [(atS t).2.2]; omega
  · have h0 : (i 0 : Nat) < 6 := (i 0).isLt
    have h1 : (i 1 : Nat) < 88 := (i 1).isLt
    have h2 : (i 2 : Nat) < 2880 := (i 2).isLt
    have hlt : (i 0 : Nat) * 23 + (i 2 : Nat) / 128 < grid0.N := by rw [N_0]; omega
    let t : Fin grid0.N := ⟨(i 0 : Nat) * 23 + (i 2 : Nat) / 128, hlt⟩
    have ht : t.val = (i 0 : Nat) * 23 + (i 2 : Nat) / 128 := rfl
    refine ⟨t, flush0_4 t, ?_⟩
    show i ∈ ((View.whole main_v1_1).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + win0_4.xsize (grid0.coords t) 0
      rw [(atS t).1, (xsS t).1]; omega
    | ⟨1, _⟩ =>
      show win0_4.index t 1 * 88 ≤ (i 1 : Nat) ∧ (i 1 : Nat) < win0_4.index t 1 * 88 + win0_4.xsize (grid0.coords t) 1
      rw [(atS t).2.1, (xsS t).2.1]; omega
    | ⟨2, _⟩ =>
      show win0_4.index t 2 * 128 ≤ (i 2 : Nat) ∧ (i 2 : Nat) < win0_4.index t 2 * 128 + win0_4.xsize (grid0.coords t) 2
      rw [(atS t).2.2, (xsS t).2.2]; omega

theorem wholeT : (cfg0.win 7).WholeAt (⟨137, by decide⟩ : Fin cfg0.N) := by decide +kernel

/-- The tensor's scale at the end. -/
theorem ts_final (c : Dev nD) (after) (hL : ∀ u : Fin cfg0.N, (cfg0.win 7).flush u = true → (rdat m c).Leaves 7 u (after 7 u)) :
    ((rdat m c).withAfter after).arrAt 7 cfg0.N = tsArr m c := by
  obtain ⟨Y, -, h⟩ := hL _ wholeT.1
  funext i
  refine (Pipeline.Dat.arrAt_emb_eq_after_last ((rdat m c).withAfter after) 7 _ wholeT i).trans ?_
  refine Eq.trans ?_ h
  show after 7 _ _ = after 7 _ _
  congr 1
  funext a
  refine Fin.ext ?_
  have hi : ∀ a, (i a).val = 0 := fun a => by
    have := (i a).isLt
    match a with
    | ⟨0, _⟩ => exact Nat.lt_one_iff.mp this
    | ⟨1, _⟩ => exact Nat.lt_one_iff.mp this
  match a with
  | ⟨0, _⟩ => exact hi 0
  | ⟨1, _⟩ => exact hi 1

/-- The call ends with the scales and the tensor's scale in their arrays, its arguments unchanged. -/
theorem value_run : θ_run defs (onTc (τ := τ) (main (F := Ideal))) ⟨m, fun _ => 0, ρ⟩ (fun r => ∀ c : Dev nD,
    r.2.mem ((c.tc : Thread nD τ).loc main_v1_1) = scaleArr m c ∧ r.2.mem ((c.tc : Thread nD τ).loc main_v1_4) = tsArr m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun r h => fun c => by
    obtain ⟨after, hL, hA⟩ := Pipeline.RDat.FramePost.exists_exact h.1 c
    exact ⟨(hA 4).trans (scales_final m c after (hL 4)), (hA 7).trans (ts_final m c after (hL 7)), (h.1.arr_in c 2 rfl).trans (V_main_arg0 m c), (h.1.arr_in c 0 rfl).trans (V_main_arg1 m c), ((h.1 c).2 main_arg2 (Pipeline.mem_restRefs_of main_arg2 (by decide) (by decide))).trans (V_main_arg2 m c)⟩) (run_main m ρ)

end Cert.QuantXIdeal.Hand

end
-- ==== Proof.HostX.lean ====
/-
  The run of the reference of the scales: its operations as a list, and each buffer at what the list leaves in it.
-/
module

public import proofs.«01_k».proof.Proof.Gen.ScaleXIdeal
public import Idealize.ShloMosaic.Lib.StableHlo.Run
public import Idealize.ShloMosaic.Lib.Pipeline.Regions
public import Idealize.ShloMosaic.Lib.Quiescent

@[expose] public section

set_option maxRecDepth 16384

noncomputable section

namespace Cert.ScaleXIdeal.Hand

open Cert.ScaleXIdeal Cert.ScaleXIdeal.Gen Idealize.ShloMosaic Idealize.ShloMosaic.TcCoe Idealize.SL.Sem Idealize.ShloMosaic.StableHlo

variable {F : FTy → Type} [FloatOps F]

/-- The operations of the reference, in order. -/
abbrev ops0 : List (HloOp τ sig (Elt F)) :=
  ( nullary main_v0 (iotaInDim S16x16 32 0)
  :: nullary main_v1 (iotaInDim S16x16 32 1)
  :: binary main_v0 main_v1 main_v2 (andi : (⟨S16x16, .i32⟩ : BufTy).Contents (Elt F) → (⟨S16x16, .i32⟩ : BufTy).Contents (Elt F) → (⟨S16x16, .i32⟩ : BufTy).Contents (Elt F))
  :: unary main_v2 main_v3 (ctpop : (⟨S16x16, .i32⟩ : BufTy).Contents (Elt F) → (⟨S16x16, .i32⟩ : BufTy).Contents (Elt F))
  :: nullary main_c (constantI S_ 32 1#32)
  :: unary main_c main_v4 (broadcastInDim S16x16 ![] bcast_S_S16x16 : (⟨S_, .i32⟩ : BufTy).Contents (Elt F) → (⟨S16x16, .i32⟩ : BufTy).Contents (Elt F))
  :: binary main_v3 main_v4 main_v5 (andi : (⟨S16x16, .i32⟩ : BufTy).Contents (Elt F) → (⟨S16x16, .i32⟩ : BufTy).Contents (Elt F) → (⟨S16x16, .i32⟩ : BufTy).Contents (Elt F))
  :: nullary main_c_0 (constantI S_ 32 2#32)
  :: unary main_c_0 main_v6 (broadcastInDim S16x16 ![] bcast_S_S16x16 : (⟨S_, .i32⟩ : BufTy).Contents (Elt F) → (⟨S16x16, .i32⟩ : BufTy).Contents (Elt F))
  :: binary main_v6 main_v5 main_v7 (muli : (⟨S16x16, .i32⟩ : BufTy).Contents (Elt F) → (⟨S16x16, .i32⟩ : BufTy).Contents (Elt F) → (⟨S16x16, .i32⟩ : BufTy).Contents (Elt F))
  :: nullary main_c_1 (constantI S_ 32 1#32)
  :: unary main_c_1 main_v8 (broadcastInDim S16x16 ![] bcast_S_S16x16 : (⟨S_, .i32⟩ : BufTy).Contents (Elt F) → (⟨S16x16, .i32⟩ : BufTy).Contents (Elt F))
  :: binary main_v8 main_v7 main_v9 (subi : (⟨S16x16, .i32⟩ : BufTy).Contents (Elt F) → (⟨S16x16, .i32⟩ : BufTy).Contents (Elt F) → (⟨S16x16, .i32⟩ : BufTy).Contents (Elt F))
  :: unary main_v9 main_v10 (sitofp .f32 : (⟨S16x16, .i32⟩ : BufTy).Contents (Elt F) → (⟨S16x16, .f32⟩ : BufTy).Contents (Elt F))
  :: unary main_arg1 main_v11 (broadcastInDim S1x16 ![1] bcast_S16_S1x16_1 : (⟨S16, .f32⟩ : BufTy).Contents (Elt F) → (⟨S1x16, .f32⟩ : BufTy).Contents (Elt F))
  :: unary main_v11 main_v12 (broadcastInDim S16x16 ![0, 1] bcast_S1x16_S16x16_0_1 : (⟨S1x16, .f32⟩ : BufTy).Contents (Elt F) → (⟨S16x16, .f32⟩ : BufTy).Contents (Elt F))
  :: binary main_v10 main_v12 main_v13 (mulf : (⟨S16x16, .f32⟩ : BufTy).Contents (Elt F) → (⟨S16x16, .f32⟩ : BufTy).Contents (Elt F) → (⟨S16x16, .f32⟩ : BufTy).Contents (Elt F))
  :: nullary main_cst (constant S_ .f32 0x3E800000#32)
  :: unary main_cst main_v14 (broadcastInDim S16x16 ![] bcast_S_S16x16 : (⟨S_, .f32⟩ : BufTy).Contents (Elt F) → (⟨S16x16, .f32⟩ : BufTy).Contents (Elt F))
  :: binary main_v13 main_v14 main_v15 (mulf : (⟨S16x16, .f32⟩ : BufTy).Contents (Elt F) → (⟨S16x16, .f32⟩ : BufTy).Contents (Elt F) → (⟨S16x16, .f32⟩ : BufTy).Contents (Elt F))
  :: unary main_arg0 main_v16 ((extf .f32 · bitsLt_bf16_f32) : (⟨S6x1408x2880, .bf16⟩ : BufTy).Contents (Elt F) → (⟨S6x1408x2880, .f32⟩ : BufTy).Contents (Elt F))
  :: reshape main_v16 main_v17 (rfl : (.f32 : EltTy) = .f32) shapeCasts_S6x1408x2880_S6x88x16x2880
  :: binary main_v17 main_v15 main_v18 ((fun l r => Host.dotGeneral dot_S6x88x16x2880_S16x16_S6x88x2880x16_2_1_013_0_n_n (some .fp32) l r) : (⟨S6x88x16x2880, .f32⟩ : BufTy).Contents (Elt F) → (⟨S16x16, .f32⟩ : BufTy).Contents (Elt F) → (⟨S6x88x2880x16, .f32⟩ : BufTy).Contents (Elt F))
  :: unary main_v18 main_v19 ((transpose S6x88x16x2880 [0, 1, 3, 2] · transposes_S6x88x2880x16_S6x88x16x2880_0_1_3_2) : (⟨S6x88x2880x16, .f32⟩ : BufTy).Contents (Elt F) → (⟨S6x88x16x2880, .f32⟩ : BufTy).Contents (Elt F))
  :: reshape main_v19 main_v20 (rfl : (.f32 : EltTy) = .f32) shapeCasts_S6x88x16x2880_S6x1408x2880
  :: nullary main_cst_2 (constant S_ .f32 0xFF800000#32)
  :: binary main_arg2 main_cst_2 main_v21 ((fun x v => Host.reduce FloatOps.maximumf x v reducesTo_S24_S_d0 h_S_) : (⟨S24, .f32⟩ : BufTy).Contents (Elt F) → (⟨S_, .f32⟩ : BufTy).Contents (Elt F) → (⟨S_, .f32⟩ : BufTy).Contents (Elt F))
  :: reshape main_v21 main_v22 (rfl : (.f32 : EltTy) = .f32) shapeCasts_S_S1x1
  :: nullary main_cst_3 (constant S_ .f32 0x00000000#32)
  :: unary main_cst_3 main_v23 (broadcastInDim S1x1 ![] bcast_S_S1x1 : (⟨S_, .f32⟩ : BufTy).Contents (Elt F) → (⟨S1x1, .f32⟩ : BufTy).Contents (Elt F))
  :: binary main_v22 main_v23 main_v24 (cmpf .ogt : (⟨S1x1, .f32⟩ : BufTy).Contents (Elt F) → (⟨S1x1, .f32⟩ : BufTy).Contents (Elt F) → (⟨S1x1, .i1⟩ : BufTy).Contents (Elt F))
  :: nullary main_cst_4 (constant S_ .f32 0x45280000#32)
  :: unary main_cst_4 main_v25 (broadcastInDim S1x1 ![] bcast_S_S1x1 : (⟨S_, .f32⟩ : BufTy).Contents (Elt F) → (⟨S1x1, .f32⟩ : BufTy).Contents (Elt F))
  :: binary main_v22 main_v25 main_v26 (Host.divf : (⟨S1x1, .f32⟩ : BufTy).Contents (Elt F) → (⟨S1x1, .f32⟩ : BufTy).Contents (Elt F) → (⟨S1x1, .f32⟩ : BufTy).Contents (Elt F))
  :: nullary main_cst_5 (constant S_ .f32 0x3F800000#32)
  :: [] )
theorem ops0_sub : (ops0 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., nullary_bufs_sub .., binary_bufs_sub .., reshape_bufs_sub .., nullary_bufs_sub .., unary_bufs_sub .., binary_bufs_sub .., nullary_bufs_sub .., unary_bufs_sub .., binary_bufs_sub .., nullary_bufs_sub ..⟩
/-- The operations of the reference, in order. -/
abbrev ops1 : List (HloOp τ sig (Elt F)) :=
  [ TRef.unary (.of main_cst_5 : TRef sig ⟨S_, .f32⟩) (.of main_call0_v0 : TRef sig ⟨S_, .f32⟩) id,
    TRef.unary (.of main_call0_v0 : TRef sig ⟨S_, .f32⟩) (.of main_call0_v1 : TRef sig ⟨S1x1, .f32⟩) (broadcastInDim S1x1 ![] bcast_S_S1x1),
    TRef.ternary (.of main_v24 : TRef sig ⟨S1x1, .i1⟩) (.of main_v26 : TRef sig ⟨S1x1, .f32⟩) (.of main_call0_v1 : TRef sig ⟨S1x1, .f32⟩) (.of main_v27 : TRef sig ⟨S1x1, .f32⟩) select ]
theorem ops1_sub : (ops1 : List (HloOp τ sig (Elt F))).Forall fun op => op.bufs ⊆ tcRefs τ sig :=
  ⟨unary_bufs_sub .., unary_bufs_sub .., ternary_bufs_sub ..⟩
/-- The operations of the reference, in order. -/
abbrev ops2 : List (HloOp τ sig (Elt F)) :=
  [ reshape main_v20 main_v28 (rfl : (.f32 : EltTy) = .f32) shapeCasts_S6x1408x2880_S6x88x16x2880,
    unary main_v28 main_v29 (Host.absf : (⟨S6x88x16x2880, .f32⟩ : BufTy).Contents (Elt F) → (⟨S6x88x16x2880, .f32⟩ : BufTy).Contents (Elt F)),
    nullary main_cst_6 (constant S_ .f32 0xFF800000#32),
    binary main_v29 main_cst_6 main_v30 ((fun x v => Host.reduce FloatOps.maximumf x v reducesTo_S6x88x16x2880_S6x88x2880_d2 h_S_) : (⟨S6x88x16x2880, .f32⟩ : BufTy).Contents (Elt F) → (⟨S_, .f32⟩ : BufTy).Contents (Elt F) → (⟨S6x88x2880, .f32⟩ : BufTy).Contents (Elt F)),
    reshape main_v27 main_v31 (rfl : (.f32 : EltTy) = .f32) shapeCasts_S1x1_S1,
    nullary main_cst_7 (constant S_ .f32 0x40C00000#32),
    unary main_cst_7 main_v32 (broadcastInDim S1 ![] bcast_S_S1 : (⟨S_, .f32⟩ : BufTy).Contents (Elt F) → (⟨S1, .f32⟩ : BufTy).Contents (Elt F)),
    binary main_v32 main_v31 main_v33 (mulf : (⟨S1, .f32⟩ : BufTy).Contents (Elt F) → (⟨S1, .f32⟩ : BufTy).Contents (Elt F) → (⟨S1, .f32⟩ : BufTy).Contents (Elt F)),
    unary main_v33 main_v34 (broadcastInDim S1x1x1 ![2] bcast_S1_S1x1x1_2 : (⟨S1, .f32⟩ : BufTy).Contents (Elt F) → (⟨S1x1x1, .f32⟩ : BufTy).Contents (Elt F)),
    unary main_v34 main_v35 (broadcastInDim S6x88x2880 ![0, 1, 2] bcast_S1x1x1_S6x88x2880_0_1_2 : (⟨S1x1x1, .f32⟩ : BufTy).Contents (Elt F) → (⟨S6x88x2880, .f32⟩ : BufTy).Contents (Elt F)),
    binary main_v30 main_v35 main_v36 (Host.divf : (⟨S6x88x2880, .f32⟩ : BufTy).Contents (Elt F) → (⟨S6x88x2880, .f32⟩ : BufTy).Contents (Elt F) → (⟨S6x88x2880, .f32⟩ : BufTy).Contents (Elt F)),
    nullary main_cst_8 (constant S_ .f32 0x00000000#32),
    nullary main_cst_9 (constant S_ .f32 0x43E00000#32) ]
theorem ops2_sub : (ops2 : List (HloOp τ sig (Elt F))).Forall fun op => op.bufs ⊆ tcRefs τ sig :=
  ⟨reshape_bufs_sub .., unary_bufs_sub .., nullary_bufs_sub .., binary_bufs_sub .., reshape_bufs_sub .., nullary_bufs_sub .., unary_bufs_sub .., binary_bufs_sub .., unary_bufs_sub .., unary_bufs_sub .., binary_bufs_sub .., nullary_bufs_sub .., nullary_bufs_sub ..⟩
/-- The operations of the reference, in order. -/
abbrev ops3 : List (HloOp τ sig (Elt F)) :=
  [ TRef.unary (.of main_cst_8 : TRef sig ⟨S_, .f32⟩) (.of main_call1_v0 : TRef sig ⟨S_, .f32⟩) id,
    TRef.unary (.of main_call1_v0 : TRef sig ⟨S_, .f32⟩) (.of main_call1_v1 : TRef sig ⟨S6x88x2880, .f32⟩) (broadcastInDim S6x88x2880 ![] bcast_S_S6x88x2880),
    TRef.binary (.of main_call1_v1 : TRef sig ⟨S6x88x2880, .f32⟩) (.of main_v36 : TRef sig ⟨S6x88x2880, .f32⟩) (.of main_call1_v2 : TRef sig ⟨S6x88x2880, .f32⟩) maximumf,
    TRef.unary (.of main_cst_9 : TRef sig ⟨S_, .f32⟩) (.of main_call1_v3 : TRef sig ⟨S_, .f32⟩) id,
    TRef.unary (.of main_call1_v3 : TRef sig ⟨S_, .f32⟩) (.of main_call1_v4 : TRef sig ⟨S6x88x2880, .f32⟩) (broadcastInDim S6x88x2880 ![] bcast_S_S6x88x2880),
    TRef.binary (.of main_call1_v4 : TRef sig ⟨S6x88x2880, .f32⟩) (.of main_call1_v2 : TRef sig ⟨S6x88x2880, .f32⟩) (.of main_v37 : TRef sig ⟨S6x88x2880, .f32⟩) minimumf ]
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- The cast of the scales to eight bits. -/
abbrev ops4 : List (HloOp τ sig (Elt F)) :=
  [ unary main_v37 main_v38 (Host.convertf .fp8e4m3 : (⟨S6x88x2880, .f32⟩ : BufTy).Contents (Elt F) → (⟨S6x88x2880, .fp8e4m3⟩ : BufTy).Contents (Elt F)) ]
theorem ops4_sub : (ops4 : List (HloOp τ sig (Elt F))).Forall fun op => op.bufs ⊆ tcRefs τ sig := unary_bufs_sub ..

/-- All of them. -/
abbrev ops : List (HloOp τ sig (Elt F)) := List.flatten [ops0, ops1, ops2, ops3, ops4]

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_flatten.mp h with ⟨l, hl, hop⟩
  simp only [List.mem_cons, List.not_mem_nil, or_false] at hl
  rcases hl with rfl | rfl | rfl | rfl | rfl
  · exact List.forall_iff_forall_mem.mp ops0_sub op hop
  · exact List.forall_iff_forall_mem.mp ops1_sub op hop
  · exact List.forall_iff_forall_mem.mp ops2_sub op hop
  · exact List.forall_iff_forall_mem.mp ops3_sub op hop
  · exact List.forall_iff_forall_mem.mp ops4_sub op hop

variable (m : (ℓ : Loc nD τ sig) → Buf (Elt F) ℓ) (ρ : Dev nD → PrngReg)

/-- What the operations leave in a buffer. -/
abbrev V (c : Dev nD) (b : Ref sig .tc) : Buf (Elt F) ((c : Thread nD τ).loc b) := after ops (fun b => m (c, b)) b

theorem run_main : θ_run defs (onTc (τ := τ) (main (F := F))) ⟨m, fun _ => 0, ρ⟩ (fun r => ∀ (c : Dev nD) (b : Ref sig .tc), r.2.mem ((c.tc : Thread nD τ).loc b) = V m c b) :=
  run_seq scopedRefs_eq scopedSems_eq defs main (fun _ => ops) main_eq (fun _ => ops_sub) m ρ

theorem V_main_arg0 (c : Dev nD) : V m c main_arg0 = m ((c : Thread nD τ).loc main_arg0) :=
  after_of_forall_not_mem (b := Proc.devRef .tc main_arg0) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

theorem V_main_arg1 (c : Dev nD) : V m c main_arg1 = m ((c : Thread nD τ).loc main_arg1) :=
  after_of_forall_not_mem (b := Proc.devRef .tc main_arg1) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

theorem V_main_arg2 (c : Dev nD) : V m c main_arg2 = m ((c : Thread nD τ).loc main_arg2) :=
  after_of_forall_not_mem (b := Proc.devRef .tc main_arg2) _ _ (List.forall_iff_forall_mem.mp (by
    simp only [ops, ops0, ops1, ops2, ops3, ops4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact devRef_ne_of_ne (by decide)))

/-- The reference runs, keeps its arguments and has no counter. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => ⟨(h c main_arg0).trans (V_main_arg0 m c), (h c main_arg1).trans (V_main_arg1 m c), (h c main_arg2).trans (V_main_arg2 m c)⟩, Idealize.ShloMosaic.sem_eq_zero_of_no_sems (by decide) r.2⟩) (run_main m ρ)

end Cert.ScaleXIdeal.Hand

end
-- ==== Proof.ScaleX.lean ====
/-
  The reference of the scales on its values: the array of the scales and the tensor's scale, element by element.
-/
module

public import proofs.«01_k».proof.Proof.HostX
public import proofs.«01_k».proof.Proof.Scale
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ScaleXIdeal.Hand

open Cert.ScaleXIdeal Cert.ScaleXIdeal.Gen Cert.Scale Cert.Butterfly Idealize.ShloMosaic Idealize.ShloMosaic.TcCoe Idealize.SL.Sem
open scoped BigOperators

variable (m : (ℓ : Loc nD τ sig) → Buf (Elt Ideal) ℓ) (ρ : Dev nD → PrngReg)

/-- The last amaxes. -/
def hist (c : Dev nD) (k : Fin 24) : EReal := (m ((c.tc : Thread nD τ).loc main_arg2) : Vec Ideal S24 .f32) (ix1 k)

/-- The signs. -/
def signs (c : Dev nD) (n : Fin 16) : EReal := (m ((c.tc : Thread nD τ).loc main_arg1) : Vec Ideal S16 .f32) (ix1 n)

/-- The scale of block `r` of slice `b` in lane `l`. -/
def scaleAt (c : Dev nD) (b : Fin 6) (r : Fin 88) (l : Fin 2880) : EReal :=
  blockScale (hist m c) (signs m c) (fun n => (m ((c.tc : Thread nD τ).loc main_arg0) : Vec Ideal S6x1408x2880 .bf16) (ix3 b ⟨16 * r.val + n.val, by omega⟩ l))

/-- The array of the scales. -/
def scaleArr (c : Dev nD) : Vec Ideal S6x88x2880 .fp8e4m3 := fun i => scaleAt m c ⟨(i 0).val, (i 0).isLt⟩ ⟨(i 1).val, (i 1).isLt⟩ ⟨(i 2).val, (i 2).isLt⟩

/-- The array of the tensor's scale. -/
def tsArr (c : Dev nD) : Vec Ideal S1x1 .f32 := fun _ => tensorScale (hist m c)

set_option maxHeartbeats 2000000 in
theorem ts_at (c : Dev nD) (i : S1x1.Idx) : (V m c main_v27 : Vec Ideal S1x1 .f32) i = tensorScale (hist m c) := by
  unfold V
  after_reads_at
  rfl

/-- The reference's row of the transform is the transform's. -/
theorem row_eq (r : Fin 88) (x : Fin 16) (u : Fin 1408 → EReal) (g : Fin 16 → EReal) (cf : ℕ → Fin 16 → EReal) (q : EReal) (hcf : ∀ k : Fin 16, cf x.val k = (sgn x k : EReal))
    (h : ∀ y : Fin 16, (r.val * 16 + x.val) / 16 * 16 + y.val < 1408) :
    (∑ y : Fin 16, u ⟨(r.val * 16 + x.val) / 16 * 16 + y.val, h y⟩ * (cf ((r.val * 16 + x.val) % 16) y * g y * q))
      = ∑ y : Fin 16, (sgn x y : EReal) * (u ⟨16 * r.val + y.val, by omega⟩ * (g y * q)) := by
  refine Finset.sum_congr rfl fun y _ => ?_
  have e1 : (r.val * 16 + x.val) % 16 = x.val := by omega
  have e2 : (⟨(r.val * 16 + x.val) / 16 * 16 + y.val, h y⟩ : Fin 1408) = ⟨16 * r.val + y.val, by omega⟩ := Fin.ext (by show (r.val * 16 + x.val) / 16 * 16 + y.val = 16 * r.val + y.val; omega)
  rw [e1, e2, hcf, mul_assoc (sgn x y : EReal)]
  exact mul_left_comm _ _ _

set_option maxHeartbeats 2000000 in
theorem scale_at (c : Dev nD) (b : Fin 6) (r : Fin 88) (l : Fin 2880) : (V m c main_v37 : Vec Ideal S6x88x2880 .f32) (ix3 b r l) = scaleAt m c b r l := by
  unfold V
  after_reads_at
  refine congrArg (fun a => clipped a (tensorScale (hist m c))) ?_
  unfold peak
  refine congrArg (fun f : Fin 16 → EReal => Finset.fold max (Ideal.ofBits .f32 4286578688#32) f Finset.univ) (funext fun x => congrArg mag ?_)
  exact row_eq r x (fun s => (m ((c.tc : Thread nD τ).loc main_arg0) : Vec Ideal S6x1408x2880 .bf16) (ix3 b s l)) (signs m c)
    (fun a k => (FloatOps.sitofp (F := Ideal) .f32 (IntOp.subi 1#32 (IntOp.muli 2#32 (IntOp.andi (IntOp.ctpop (IntOp.andi (BitVec.ofNat 32 a) (BitVec.ofNat 32 k.val))) 1#32))) : EReal))
    (Ideal.ofBits .f32 1048576000#32) (fun k => coef x k) (fun y => by omega)

/-- The array of the scales: the cast to eight bits changes nothing over the reals. -/
theorem cast_at (c : Dev nD) (i : S6x88x2880.Idx) : (V m c main_v38 : Vec Ideal S6x88x2880 .fp8e4m3) i = (V m c main_v37 : Vec Ideal S6x88x2880 .f32) i := by
  unfold V
  after_reads_at

theorem scales_final (c : Dev nD) : (V m c main_v38 : Vec Ideal S6x88x2880 .fp8e4m3) = scaleArr m c := by
  funext i
  have h0 : (i 0).val < 6 := (i 0).isLt
  have h1 : (i 1).val < 88 := (i 1).isLt
  have h2 : (i 2).val < 2880 := (i 2).isLt
  refine (cast_at m c i).trans (Eq.trans (b := (V m c main_v37 : Vec Ideal S6x88x2880 .f32) (ix3 ⟨(i 0).val, h0⟩ ⟨(i 1).val, h1⟩ ⟨(i 2).val, h2⟩))
    (congrArg (V m c main_v37 : Vec Ideal S6x88x2880 .f32) (funext fun a => Fin.ext ?_)) (scale_at m c _ _ _))
  fin_cases a <;> rfl

/-- The reference's run: the scales, the tensor's scale, and its arguments as launched. -/
theorem value_run : θ_run defs (onTc (τ := τ) (main (F := Ideal))) ⟨m, fun _ => 0, ρ⟩ (fun r => ∀ c : Dev nD,
    r.2.mem ((c.tc : Thread nD τ).loc main_v38) = scaleArr m c ∧ r.2.mem ((c.tc : Thread nD τ).loc main_v27) = tsArr m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun r h => fun c => ⟨(h c main_v38).trans (scales_final m c), (h c main_v27).trans (funext fun i => ts_at m c i), (h c main_arg0).trans (V_main_arg0 m c), (h c main_arg1).trans (V_main_arg1 m c), (h c main_arg2).trans (V_main_arg2 m c)⟩) (run_main m ρ)

end Cert.ScaleXIdeal.Hand

end
-- ==== Proof.lean ====
/-
  The claims put together: the matmul call, and the two quantise calls with the references of their scales.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.QuantDy
public import proofs.«01_k».proof.Proof.Gen.QuantDy.Skeleton
public import proofs.«01_k».proof.Proof.Gen.QuantDy.Launch
public import proofs.«01_k».proof.Proof.Gen.QuantDy.Points
public import proofs.«01_k».proof.Proof.Gen.QuantDy.Frame
public import proofs.«01_k».proof.Proof.Gen.QuantDy.Loops
public import proofs.«01_k».proof.Proof.Gen.QuantX
public import proofs.«01_k».proof.Proof.Gen.QuantXIdeal
public import proofs.«01_k».proof.Proof.Gen.QuantDyIdeal
public import proofs.«01_k».proof.Proof.Gen.QuantX.Skeleton
public import proofs.«01_k».proof.Proof.Gen.QuantXIdeal.Skeleton
public import proofs.«01_k».proof.Proof.Gen.QuantDyIdeal.Skeleton
public import proofs.«01_k».proof.Proof.Gen.QuantX.Launch
public import proofs.«01_k».proof.Proof.Gen.QuantXIdeal.Launch
public import proofs.«01_k».proof.Proof.Gen.QuantDyIdeal.Launch
public import proofs.«01_k».proof.Proof.Gen.QuantX.Points
public import proofs.«01_k».proof.Proof.Gen.QuantXIdeal.Points
public import proofs.«01_k».proof.Proof.Gen.QuantDyIdeal.Points
public import proofs.«01_k».proof.Proof.Gen.QuantX.Frame
public import proofs.«01_k».proof.Proof.Gen.QuantX.Loops
public import proofs.«01_k».proof.Proof.Gen.QuantXIdeal.Frame
public import proofs.«01_k».proof.Proof.Gen.QuantXIdeal.Loops
public import proofs.«01_k».proof.Proof.Gen.QuantDyIdeal.Frame
public import proofs.«01_k».proof.Proof.Gen.QuantDyIdeal.Loops
public import proofs.«01_k».proof.Proof.Gen.ScaleDyIdeal
public import proofs.«01_k».proof.Proof.Gen.ScaleXIdeal
public import proofs.«01_k».proof.Proof.Final
public import proofs.«01_k».proof.Proof.FrameDy
public import proofs.«01_k».proof.Proof.RunDy
public import proofs.«01_k».proof.Proof.ScaleDy
public import proofs.«01_k».proof.Proof.FrameX
public import proofs.«01_k».proof.Proof.RunX
public import proofs.«01_k».proof.Proof.ScaleX
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The matmul call runs, keeps its arguments and leaves every counter at zero, on the chip's words … -/
theorem frame_p : Cert.quiescent_Kernel := fun m ρ _ => Cert.Kernel.Gen.frame (F := Bits) m ρ

/-- … and over the extended reals. -/
theorem frame_pi : Cert.quiescent_KernelIdeal := fun m ρ _ => Cert.KernelIdeal.Gen.frame (F := Ideal) m ρ

/-- So does the reference, which declares no counter. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the matmul call and the reference end with the same weight gradient. -/
theorem algebraic : Cert.algebraic_KernelIdeal_ReferenceIdeal := by
  intro m ρ m' ρ' _ hargs
  refine ⟨fun c => Cert.KernelIdeal.Hand.result m c, ?_, ?_⟩
  · exact (θ_run Cert.KernelIdeal.defs _ _).mono (fun r h c => ⟨(h c).1.trans (Cert.KernelIdeal.Hand.final m c), (h c).2⟩)
      (Cert.KernelIdeal.Value.run_blocks (F := Ideal) m ρ)
  · refine (θ_run Cert.ReferenceIdeal.defs _ _).mono (fun r h c => ⟨?_, (h c).2⟩) (Cert.ReferenceIdeal.Value.run (F := Ideal) m' ρ')
    refine ((h c).1.trans (Cert.ReferenceIdeal.Read.val_main_v4_eq _ _ _ _)).trans ?_
    obtain ⟨h0, h1, h2, h3⟩ := hargs c
    refine Eq.trans ?_ (Cert.KernelIdeal.Hand.eq_reference m c).symm
    exact congr (congr (congr (congrArg Cert.ReferenceIdeal.Read.val_main_v4 h0) h1) h2) h3

/-- The quantise call on the output gradient runs, keeps its arguments and leaves every counter at zero, on the chip's words … -/
theorem frame_dy : Cert.quiescent_QuantDy := fun m ρ _ => Cert.QuantDy.Hand.frame_run (F := Bits) m ρ

/-- … and over the extended reals, -/
theorem frame_dyi : Cert.quiescent_QuantDyIdeal := fun m ρ _ => Cert.QuantDyIdeal.Hand.frame_run m ρ

/-- as does the reference of its scales. -/
theorem frame_sdy : Cert.quiescent_ScaleDyIdeal := fun m ρ _ => Cert.ScaleDyIdeal.Hand.frame (F := Ideal) m ρ

/-- Each rewriting of the quantise call on the output gradient keeps its meaning. -/
theorem preserves_dy : Cert.preserves_QuantDy_QuantDyIdeal :=
  ⟨IdealRules.bf16_pair.statement Cert.QuantDyIdeal.S1x8x2x128 Cert.QuantDyIdeal.S1x8x1x128,
    IdealRules.bf16_pair.statement Cert.QuantDyIdeal.S16x128 Cert.QuantDyIdeal.S8x128,
    IdealRules.bf16_pair.packStatement Cert.QuantDyIdeal.S8x128, IdealRules.sign_bit.maskStatement Cert.QuantDyIdeal.S8x128 .f32⟩

/-- Over the extended reals the quantise call on the output gradient and the reference end with the same block scales and the same scale of the tensor. -/
theorem algebraic_dy : Cert.algebraic_QuantDyIdeal_ScaleDyIdeal := by
  intro m ρ m' ρ' _ hargs
  have hh : ∀ c, Cert.ScaleDyIdeal.Hand.hist m' c = Cert.QuantDyIdeal.Hand.hist m c := fun c => by
    obtain ⟨h0, h1, h2, h3⟩ := hargs c
    exact funext fun k => congrFun h3 (ix1 k)
  have hg : ∀ c, Cert.ScaleDyIdeal.Hand.signs m' c = Cert.QuantDyIdeal.Hand.signs m c := fun c => by
    obtain ⟨h0, h1, h2, h3⟩ := hargs c
    exact funext fun k => congrFun h1 (ix1 k)
  have hs : ∀ c b r l, Cert.ScaleDyIdeal.Hand.scaleAt m' c b r l = Cert.QuantDyIdeal.Hand.scaleAt m c b r l := fun c b r l => by
    obtain ⟨h0, h1, h2, h3⟩ := hargs c
    have hu := fun n : Fin 16 => congrFun h0 (ix3 b ⟨16 * r.val + n.val, by omega⟩ l)
    exact (congr (congr (congrArg Cert.Scale.blockScale (hh c)) (hg c)) (funext hu) :)
  refine ⟨fun c => Cert.QuantDyIdeal.Hand.scaleArr m c, fun c => Cert.QuantDyIdeal.Hand.tsArr m c, Cert.QuantDyIdeal.Hand.value_run m ρ, ?_⟩
  exact (θ_run Cert.ScaleDyIdeal.defs _ _).mono (fun r h c => ⟨(h c).1.trans (funext fun i => hs c _ _ _),
    (h c).2.1.trans (funext fun _ => congrArg Cert.Scale.tensorScale (hh c)), (h c).2.2⟩) (Cert.ScaleDyIdeal.Hand.value_run m' ρ')

/-- The quantise call on the input runs, keeps its arguments and leaves every counter at zero, on the chip's words … -/
theorem frame_x : Cert.quiescent_QuantX := fun m ρ _ => Cert.QuantX.Hand.frame_run (F := Bits) m ρ

/-- … and over the extended reals, -/
theorem frame_xi : Cert.quiescent_QuantXIdeal := fun m ρ _ => Cert.QuantXIdeal.Hand.frame_run m ρ

/-- as does the reference of its scales. -/
theorem frame_sx : Cert.quiescent_ScaleXIdeal := fun m ρ _ => Cert.ScaleXIdeal.Hand.frame (F := Ideal) m ρ

/-- Each rewriting of the quantise call on the input keeps its meaning. -/
theorem preserves_x : Cert.preserves_QuantX_QuantXIdeal :=
  ⟨IdealRules.bf16_pair.statement Cert.QuantXIdeal.S1x8x2x128 Cert.QuantXIdeal.S1x8x1x128,
    IdealRules.bf16_pair.statement Cert.QuantXIdeal.S16x128 Cert.QuantXIdeal.S8x128,
    IdealRules.bf16_pair.packStatement Cert.QuantXIdeal.S8x128⟩

/-- Over the extended reals the quantise call on the input and the reference end with the same block scales and the same scale of the tensor. -/
theorem algebraic_x : Cert.algebraic_QuantXIdeal_ScaleXIdeal := by
  intro m ρ m' ρ' _ hargs
  have hh : ∀ c, Cert.ScaleXIdeal.Hand.hist m' c = Cert.QuantXIdeal.Hand.hist m c := fun c => by
    obtain ⟨h0, h1, h2⟩ := hargs c
    exact funext fun k => congrFun h2 (ix1 k)
  have hg : ∀ c, Cert.ScaleXIdeal.Hand.signs m' c = Cert.QuantXIdeal.Hand.signs m c := fun c => by
    obtain ⟨h0, h1, h2⟩ := hargs c
    exact funext fun k => congrFun h1 (ix1 k)
  have hs : ∀ c b r l, Cert.ScaleXIdeal.Hand.scaleAt m' c b r l = Cert.QuantXIdeal.Hand.scaleAt m c b r l := fun c b r l => by
    obtain ⟨h0, h1, h2⟩ := hargs c
    have hu := fun n : Fin 16 => congrFun h0 (ix3 b ⟨16 * r.val + n.val, by omega⟩ l)
    exact (congr (congr (congrArg Cert.Scale.blockScale (hh c)) (hg c)) (funext hu) :)
  refine ⟨fun c => Cert.QuantXIdeal.Hand.scaleArr m c, fun c => Cert.QuantXIdeal.Hand.tsArr m c, Cert.QuantXIdeal.Hand.value_run m ρ, ?_⟩
  exact (θ_run Cert.ScaleXIdeal.defs _ _).mono (fun r h c => ⟨(h c).1.trans (funext fun i => hs c _ _ _),
    (h c).2.1.trans (funext fun _ => congrArg Cert.Scale.tensorScale (hh c)), (h c).2.2⟩) (Cert.ScaleXIdeal.Hand.value_run m' ρ')

theorem claim : Cert.Claim := ⟨Cert.Kernel.Gen.facts, Cert.KernelIdeal.Gen.facts, Cert.ReferenceIdeal.Gen.facts,
  Cert.QuantDy.Gen.facts, Cert.QuantDyIdeal.Gen.facts, Cert.ScaleDyIdeal.Gen.facts, Cert.QuantX.Gen.facts, Cert.QuantXIdeal.Gen.facts, Cert.ScaleXIdeal.Gen.facts,
  frame_p, frame_pi, frame_ri, frame_dy, frame_dyi, frame_sdy, frame_x, frame_xi, frame_sx,
  trivial, algebraic, preserves_dy, algebraic_dy, preserves_x, algebraic_x⟩

end Cert.Proof

end
